-- ==== Defs.lean ====
def Pre_Kernel [hPre_last_block_used : Cert.Pre_last_block_used.Facts] (m : (ℓ : Loc Cert.Kernel.nD Cert.Kernel.τ Cert.Kernel.sig) → Buf (Elt Bits) ℓ) : Prop :=
  ∀ c : Dev Cert.Kernel.nD,
    (Cert.Pre_last_block_used.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_last_block_used : Cert.Pre_last_block_used.Facts] (m : (ℓ : Loc Cert.KernelIdeal.nD Cert.KernelIdeal.τ Cert.KernelIdeal.sig) → Buf (Elt Ideal) ℓ) : Prop :=
  ∀ c : Dev Cert.KernelIdeal.nD,
    (Cert.Pre_last_block_used.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_pool_inputs [hPre_pool_inputs : Cert.Pre_pool_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_pool_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_inputs [hPre_pool_inputs : Cert.Pre_pool_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_last_block_used : Cert.Pre_last_block_used.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_last_block_used : Cert.Pre_last_block_used.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pool_inputs [hKernelIdeal : Cert.KernelIdeal.Facts] [hPre_pool_inputs : Cert.Pre_pool_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pool_inputs [hReferenceIdeal : Cert.ReferenceIdeal.Facts] [hPre_pool_inputs : Cert.Pre_pool_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pool_inputs [hKernelIdeal : Cert.KernelIdeal.Facts] [hReferenceIdeal : Cert.ReferenceIdeal.Facts] [hPre_pool_inputs : Cert.Pre_pool_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_last_block_used : Cert.Pre_last_block_used.Facts) (hPre_pool_inputs : Cert.Pre_pool_inputs.Facts),
    quiescent_Kernel (hKernel := hKernel) (hPre_last_block_used := hPre_last_block_used)
    ∧ quiescent_KernelIdeal (hKernelIdeal := hKernelIdeal) (hPre_last_block_used := hPre_last_block_used)
    ∧ quiescent_KernelIdeal_pre_pool_inputs (hKernelIdeal := hKernelIdeal) (hPre_pool_inputs := hPre_pool_inputs)
    ∧ quiescent_ReferenceIdeal (hReferenceIdeal := hReferenceIdeal)
    ∧ quiescent_ReferenceIdeal_pre_pool_inputs (hReferenceIdeal := hReferenceIdeal) (hPre_pool_inputs := hPre_pool_inputs)
    ∧ preserves_Kernel_KernelIdeal
    ∧ algebraic_KernelIdeal_ReferenceIdeal_pre_pool_inputs (hKernelIdeal := hKernelIdeal) (hReferenceIdeal := hReferenceIdeal) (hPre_pool_inputs := hPre_pool_inputs)
-- ==== Pre_last_block_used.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S128x64 .f32) (main_arg3 : FVec F S64 .f32) (main_arg4 : FVec F S64x1 .f32) (main_arg5 : FVec F S1 .f32) : IVec S_ 1 :=
  let main_c : IVec S_ 32 := constantI S_ 32 9984#32
  let main_v0 : IVec S320000 32 := broadcastInDim S320000 ![] bcast_S_S320000 main_c
  let main_v1 : IVec S320000 1 := cmpi .sge main_arg1 main_v0
  let main_c_0 : IVec S_ 1 := constantI S_ 1 0#1
  let main_v2 : IVec S_ 1 := (fun x v => Host.reduce IntOp.ori x v reducesTo_S320000_S_d0 h_S_) main_v1 main_c_0
  main_v2
-- ==== Pre_pool_inputs.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S319999 : Shape := ⟨1, ![319999]⟩
abbrev S_ : Shape := ⟨0, ![]⟩

class Facts : Prop where
  slices_S320000_S319999_0 : S320000.Slices ![0] S319999
  slices_S320000_S319999_1 : S320000.Slices ![1] S319999
  reducesTo_S319999_S_d0 : S319999.ReducesTo [0] S_
  h_S_ : 0 < S_.numel
  bcast_S_S320000 : S_.BroadcastsInDim S320000 (![] : Fin 0 → Fin S320000.rank)
  reducesTo_S320000_S_d0 : S320000.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v15 : IVec S_ 1) (main_v16 : IVec S_ 1) : IVec S_ 1 :=
  let main_v17 : IVec S_ 1 := andi main_v16 main_v15
  main_v17

def fn {F : FTy → Type} [FloatOps F] (main_arg0 : FVec F S320000x128 .f32) (main_arg1 : IVec S320000 32) (main_arg2 : FVec F S128x64 .f32) (main_arg3 : FVec F S64 .f32) (main_arg4 : FVec F S64x1 .f32) (main_arg5 : FVec F S1 .f32) : IVec S_ 1 :=
  let main_v0 : IVec S319999 32 := (extractStridedSlice S319999 ![0] · slices_S320000_S319999_0) main_arg1
  let main_v1 : IVec S319999 32 := (extractStridedSlice S319999 ![1] · slices_S320000_S319999_1) main_arg1
  let main_v2 : IVec S319999 1 := cmpi .sle main_v0 main_v1
  let main_c : IVec S_ 1 := constantI S_ 1 1#1
  let main_v3 : IVec S_ 1 := (fun x v => Host.reduce IntOp.andi x v reducesTo_S319999_S_d0 h_S_) main_v2 main_c
  let main_c_0 : IVec S_ 32 := constantI S_ 32 9984#32
  let main_v4 : IVec S320000 32 := broadcastInDim S320000 ![] bcast_S_S320000 main_c_0
  let main_v5 : IVec S320000 1 := cmpi .sge main_arg1 main_v4
  let main_c_1 : IVec S_ 1 := constantI S_ 1 0#1
  let main_v6 : IVec S_ 1 := (fun x v => Host.reduce IntOp.ori x v reducesTo_S320000_S_d0 h_S_) main_v5 main_c_1
  let main_v7 : FVec F S64x1 .f32 := Host.absf main_arg4
  let main_cst : FVec F S_ .f32 := constant S_ .f32 0x7F800000#32
  let main_v8 : FVec F S64x1 .f32 := broadcastInDim S64x1 ![] bcast_S_S64x1 main_cst
  let main_v9 : IVec S64x1 1 := cmpf .olt main_v7 main_v8
  let main_c_2 : IVec S_ 1 := constantI S_ 1 1#1
  let main_v10 : IVec S_ 1 := (fun x v => Host.reduce IntOp.andi x v reducesTo_S64x1_S_d0_1 h_S_) main_v9 main_c_2
  let main_v11 : FVec F S1 .f32 := Host.absf main_arg5
  let main_cst_3 : FVec F S_ .f32 := constant S_ .f32 0x7F800000#32
  let main_v12 : FVec F S1 .f32 := broadcastInDim S1 ![] bcast_S_S1 main_cst_3
  let main_v13 : IVec S1 1 := cmpf .olt main_v11 main_v12
  let main_c_4 : IVec S_ 1 := constantI S_ 1 1#1
  let main_v14 : IVec S_ 1 := (fun x v => Host.reduce IntOp.andi x v reducesTo_S1_S_d0 h_S_) main_v13 main_c_4
  let main_v15 : IVec S_ 1 := andi main_v10 main_v14
  let main_v16 : IVec S_ 1 := andi main_v3 main_v6
  fn_part1 (F := F) main_v15 main_v16
-- ==== Kernel.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S80 : Shape := ⟨1, ![80]⟩
abbrev S_ : Shape := ⟨0, ![]⟩
abbrev S1x320000 : Shape := ⟨2, ![1, 320000]⟩
abbrev S80x1 : Shape := ⟨2, ![80, 1]⟩
abbrev S80x320000 : Shape := ⟨2, ![80, 320000]⟩
abbrev S79 : Shape := ⟨1, ![79]⟩
abbrev S279 : Shape := ⟨1, ![279]⟩
abbrev S1x79 : Shape := ⟨2, ![1, 79]⟩
abbrev S279x1 : Shape := ⟨2, ![279, 1]⟩
abbrev S279x79 : Shape := ⟨2, ![279, 79]⟩
abbrev S278 : Shape := ⟨1, ![278]⟩
abbrev S1x279 : Shape := ⟨2, ![1, 279]⟩
abbrev S5x279 : Shape := ⟨2, ![5, 279]⟩
abbrev S200x1x1600 : Shape := ⟨3, ![200, 1, 1600]⟩
abbrev S1x64 : Shape := ⟨2, ![1, 64]⟩
abbrev S64x8 : Shape := ⟨2, ![64, 8]⟩
abbrev S10112x128 : Shape := ⟨2, ![10112, 128]⟩
abbrev S1x1x1600 : Shape := ⟨3, ![1, 1, 1600]⟩
abbrev S1x1 : Shape := ⟨2, ![1, 1]⟩
abbrev S1600x128 : Shape := ⟨2, ![1600, 128]⟩
abbrev S128x128 : Shape := ⟨2, ![128, 128]⟩
abbrev S1x128 : Shape := ⟨2, ![1, 128]⟩
abbrev S1600x64 : Shape := ⟨2, ![1600, 64]⟩
abbrev S1600x8 : Shape := ⟨2, ![1600, 8]⟩
abbrev S1600x1 : Shape := ⟨2, ![1600, 1]⟩
abbrev S1x1600 : Shape := ⟨2, ![1, 1600]⟩
abbrev S128 : Shape := ⟨1, ![128]⟩
abbrev S128x1 : Shape := ⟨2, ![128, 1]⟩
abbrev S10000x128 : Shape := ⟨2, ![10000, 128]⟩

abbrev nBuf : Space → Nat
  | .hbm => 131
  | .vmem => 10
  | .smem => 1
  | _ => 0

abbrev hbmTy0_0 (i : Nat) : BufTy := match i % 128 with
  | 0 => ⟨S320000x128, .f32⟩
  | 1 => ⟨S320000, .i32⟩
  | 2 => ⟨S128x64, .f32⟩
  | 3 => ⟨S64, .f32⟩
  | 4 => ⟨S64x1, .f32⟩
  | 5 => ⟨S1, .f32⟩
  | 6 => ⟨S80, .i32⟩
  | 7 => ⟨S_, .i32⟩
  | 8 => ⟨S80, .i32⟩
  | 9 => ⟨S80, .i32⟩
  | 10 => ⟨S1x320000, .i32⟩
  | 11 => ⟨S80x1, .i32⟩
  | 12 => ⟨S80x320000, .i32⟩
  | 13 => ⟨S80x320000, .i32⟩
  | 14 => ⟨S80x320000, .i1⟩
  | 15 => ⟨S80x320000, .i32⟩
  | 16 => ⟨S_, .i32⟩
  | 17 => ⟨S80, .i32⟩
  | 18 => ⟨S79, .i32⟩
  | 19 => ⟨S79, .i32⟩
  | 20 => ⟨S_, .i32⟩
  | 21 => ⟨S_, .i32⟩
  | 22 => ⟨S79, .i32⟩
  | 23 => ⟨S79, .i32⟩
  | 24 => ⟨S79, .i32⟩
  | 25 => ⟨S_, .i32⟩
  | 26 => ⟨S79, .i32⟩
  | 27 => ⟨S79, .i1⟩
  | 28 => ⟨S79, .i32⟩
  | 29 => ⟨S79, .i32⟩
  | 30 => ⟨S_, .i32⟩
  | 31 => ⟨S79, .i32⟩
  | 32 => ⟨S79, .i1⟩
  | 33 => ⟨S79, .i1⟩
  | 34 => ⟨S_, .i32⟩
  | 35 => ⟨S79, .i32⟩
  | 36 => ⟨S79, .i32⟩
  | 37 => ⟨S79, .i32⟩
  | 38 => ⟨S79, .i1⟩
  | 39 => ⟨S_, .i32⟩
  | 40 => ⟨S79, .i32⟩
  | 41 => ⟨S79, .i32⟩
  | 42 => ⟨S_, .i32⟩
  | 43 => ⟨S_, .i32⟩
  | 44 => ⟨S79, .i32⟩
  | 45 => ⟨S79, .i32⟩
  | 46 => ⟨S79, .i32⟩
  | 47 => ⟨S_, .i32⟩
  | 48 => ⟨S79, .i32⟩
  | 49 => ⟨S79, .i1⟩
  | 50 => ⟨S79, .i32⟩
  | 51 => ⟨S79, .i32⟩
  | 52 => ⟨S_, .i32⟩
  | 53 => ⟨S79, .i32⟩
  | 54 => ⟨S79, .i1⟩
  | 55 => ⟨S79, .i1⟩
  | 56 => ⟨S_, .i32⟩
  | 57 => ⟨S79, .i32⟩
  | 58 => ⟨S79, .i32⟩
  | 59 => ⟨S79, .i32⟩
  | 60 => ⟨S79, .i32⟩
  | 61 => ⟨S79, .i32⟩
  | 62 => ⟨S_, .i32⟩
  | 63 => ⟨S79, .i32⟩
  | 64 => ⟨S79, .i32⟩
  | 65 => ⟨S_, .i32⟩
  | 66 => ⟨S_, .i32⟩
  | 67 => ⟨S79, .i32⟩
  | 68 => ⟨S1, .i32⟩
  | 69 => ⟨S_, .i32⟩
  | 70 => ⟨S279, .i32⟩
  | 71 => ⟨S1x79, .i32⟩
  | 72 => ⟨S279x1, .i32⟩
  | 73 => ⟨S279x79, .i32⟩
  | 74 => ⟨S279x79, .i32⟩
  | 75 => ⟨S279x79, .i1⟩
  | 76 => ⟨S279x79, .i32⟩
  | 77 => ⟨S_, .i32⟩
  | 78 => ⟨S279, .i32⟩
  | 79 => ⟨S279, .i32⟩
  | 80 => ⟨S279, .i1⟩
  | 81 => ⟨S_, .i32⟩
  | 82 => ⟨S279, .i32⟩
  | 83 => ⟨S279, .i32⟩
  | 84 => ⟨S79, .i32⟩
  | 85 => ⟨S_, .i32⟩
  | 86 => ⟨S279, .i32⟩
  | 87 => ⟨S279, .i1⟩
  | 88 => ⟨S_, .i32⟩
  | 89 => ⟨S279, .i32⟩
  | 90 => ⟨S279, .i32⟩
  | 91 => ⟨S279, .i32⟩
  | 92 => ⟨S279x1, .i32⟩
  | 93 => ⟨S279, .i32⟩
  | 94 => ⟨S_, .i32⟩
  | 95 => ⟨S279, .i32⟩
  | 96 => ⟨S279, .i1⟩
  | 97 => ⟨S_, .i32⟩
  | 98 => ⟨S279, .i32⟩
  | 99 => ⟨S279, .i32⟩
  | 100 => ⟨S279, .i32⟩
  | 101 => ⟨S279x1, .i32⟩
  | 102 => ⟨S279, .i32⟩
  | 103 => ⟨S279, .i32⟩
  | 104 => ⟨S279, .i32⟩
  | 105 => ⟨S1, .i32⟩
  | 106 => ⟨S_, .i32⟩
  | 107 => ⟨S279, .i32⟩
  | 108 => ⟨S279, .i32⟩
  | 109 => ⟨S278, .i32⟩
  | 110 => ⟨S278, .i32⟩
  | 111 => ⟨S278, .i1⟩
  | 112 => ⟨S_, .i1⟩
  | 113 => ⟨S1, .i1⟩
  | 114 => ⟨S279, .i1⟩
  | 115 => ⟨S279, .i1⟩
  | 116 => ⟨S279, .i32⟩
  | 117 => ⟨S279, .i32⟩
  | 118 => ⟨S279, .i32⟩
  | 119 => ⟨S1x279, .i32⟩
  | 120 => ⟨S1x279, .i32⟩
  | 121 => ⟨S1x279, .i32⟩
  | 122 => ⟨S1x279, .i32⟩
  | 123 => ⟨S1x279, .i32⟩
  | 124 => ⟨S200x1x1600, .i32⟩
  | 125 => ⟨S1x64, .f32⟩
  | 126 => ⟨S_, .i32⟩
  | 127 => ⟨S_, .f32⟩
  | _ => ⟨S320000x128, .f32⟩

abbrev hbmTy0_1 (i : Nat) : BufTy := match i % 128 with
  | 0 => ⟨S64x8, .f32⟩
  | 1 => ⟨S10112x128, .f32⟩
  | 2 => ⟨S10000x128, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | .local _ .vmem, ⟨0, _⟩ => ⟨S1x1x1600, .i32⟩
  | .local _ .vmem, ⟨1, _⟩ => ⟨S1x1x1600, .i32⟩
  | .local _ .vmem, ⟨2, _⟩ => ⟨S1600x128, .f32⟩
  | .local _ .vmem, ⟨3, _⟩ => ⟨S1600x128, .f32⟩
  | .local _ .vmem, ⟨4, _⟩ => ⟨S128x64, .f32⟩
  | .local _ .vmem, ⟨5, _⟩ => ⟨S1x64, .f32⟩
  | .local _ .vmem, ⟨6, _⟩ => ⟨S64x8, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .smem, ⟨0, _⟩ => ⟨S5x279, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_c_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_4 : Ref sig .tc := ⟨.hbm, 62, rfl⟩
abbrev main_v19 : Ref sig .tc := ⟨.hbm, 63, rfl⟩
abbrev main_v20 : Ref sig .tc := ⟨.hbm, 64, rfl⟩
abbrev main_call3_call0_c : Ref sig .tc := ⟨.hbm, 65, rfl⟩
abbrev main_call3_call0_v0 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_c_5 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_c_6 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_c_7 : Ref sig .tc := ⟨.hbm, 85, rfl⟩
abbrev main_v37 : Ref sig .tc := ⟨.hbm, 86, rfl⟩
abbrev main_v38 : Ref sig .tc := ⟨.hbm, 87, rfl⟩
abbrev main_c_8 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_9 : Ref sig .tc := ⟨.hbm, 94, rfl⟩
abbrev main_v44 : Ref sig .tc := ⟨.hbm, 95, rfl⟩
abbrev main_v45 : Ref sig .tc := ⟨.hbm, 96, rfl⟩
abbrev main_c_10 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_call4_v0 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_c_11 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v71 : Ref sig .tc := ⟨.hbm, 124, rfl⟩
abbrev main_v72 : Ref sig .tc := ⟨.hbm, 125, rfl⟩
abbrev main_c_12 : Ref sig .tc := ⟨.hbm, 126, rfl⟩
abbrev main_call5_v0 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v70 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![279], ![false]⟩

abbrev pre0 : Pipeline.Prefetch sig := ⟨1, ![main_v70.idx], fun | 0 => main_v70.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c2 : Index := 2#32
  let arg0 : BitVec 32 := BitVec.ofNat 32 (i 0).val
  let v2 : Index := Scalar.indexCast arg0
  ![2, v2.toNat]
def k0_off4 (i : grid0.Coords) : Fin 2 → Nat :=
  let c3 : Index := 3#32
  let arg0 : BitVec 32 := BitVec.ofNat 32 (i 0).val
  let v4 : Index := Scalar.indexCast arg0
  ![3, v4.toNat]
def k0_off5 (i : grid0.Coords) : Fin 2 → Nat :=
  let c4 : Index := 4#32
  let arg0 : BitVec 32 := BitVec.ofNat 32 (i 0).val
  let v6 : Index := Scalar.indexCast arg0
  ![4, v6.toNat]
def k0_cond1 (v7 : BitVec 32) : BitVec 1 :=
  let c1_i32 : BitVec 32 := 1#32
  let v8 : BitVec 1 := Scalar.cmpi .eq v7 c1_i32
  let v9 : BitVec 32 := Scalar.extui v8
  let c0_i32 : BitVec 32 := 0#32
  let v10 : BitVec 1 := Scalar.cmpi .ne v9 c0_i32
  v10

def k0_cond2 (v3 : BitVec 32) : BitVec 1 :=
  let c1_i32_16 : BitVec 32 := 1#32
  let v43 : BitVec 1 := Scalar.cmpi .eq v3 c1_i32_16
  let v44 : BitVec 32 := Scalar.extui v43
  let c0_i32_17 : BitVec 32 := 0#32
  let v45 : BitVec 1 := Scalar.cmpi .ne v44 c0_i32_17
  v45

def k0_cond3 (v3 : BitVec 32) : BitVec 1 :=
  let c0_i32_18 : BitVec 32 := 0#32
  let v46 : BitVec 1 := Scalar.cmpi .eq v3 c0_i32_18
  let v47 : BitVec 32 := Scalar.extui v46
  let c0_i32_19 : BitVec 32 := 0#32
  let v48 : BitVec 1 := Scalar.cmpi .ne v47 c0_i32_19
  v48

def k0_cond4 (v5 : BitVec 32) : BitVec 1 :=
  let c1_i32_0 : BitVec 32 := 1#32
  let v11 : BitVec 1 := Scalar.cmpi .eq v5 c1_i32_0
  let v12 : BitVec 32 := Scalar.extui v11
  let c0_i32_1 : BitVec 32 := 0#32
  let v13 : BitVec 1 := Scalar.cmpi .ne v12 c0_i32_1
  v13

def cc0_transform_0 (k0_off1_inb : ∀ i : grid0.Coords, ∀ a, (k0_off1 i) a + S1x1.size a ≤ S5x279.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S5x279) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1x1.size a ≤ S5x279.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S5x279) ![0, v0.toNat] S1x1.size (k0_off1_inb i)) numel1_S1x1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off2_inb : ∀ i : grid0.Coords, ∀ a, (k0_off2 i) a + S1x1.size a ≤ S5x279.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S5x279) ![1, v0.toNat] S1x1.size (k0_off2_inb i)) numel1_S1x1
  let c0_i32 : BitVec 32 := 0#32
  let c0_i32_0 : BitVec 32 := 0#32
  ![v1.toNat, c0_i32.toNat]

abbrev stage0_0 : Fin 2 → Memref sig .tc .vmem S1x1x1600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S320000x64 : Shape := ⟨2, ![320000, 64]⟩
abbrev S1x64 : Shape := ⟨2, ![1, 64]⟩
abbrev S320000x1 : Shape := ⟨2, ![320000, 1]⟩
abbrev S1x1 : Shape := ⟨2, ![1, 1]⟩
abbrev S10000 : Shape := ⟨1, ![10000]⟩
abbrev S10000x1 : Shape := ⟨2, ![10000, 1]⟩
abbrev S1x320000 : Shape := ⟨2, ![1, 320000]⟩
abbrev S10000x320000 : Shape := ⟨2, ![10000, 320000]⟩
abbrev S_ : Shape := ⟨0, ![]⟩
abbrev S10000x128 : Shape := ⟨2, ![10000, 128]⟩

abbrev nBuf : Space → Nat
  | .hbm => 70
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S320000x64, .f32⟩
  | .hbm, ⟨7, _⟩ => ⟨S1x64, .f32⟩
  | .hbm, ⟨8, _⟩ => ⟨S320000x64, .f32⟩
  | .hbm, ⟨9, _⟩ => ⟨S320000x64, .f32⟩
  | .hbm, ⟨10, _⟩ => ⟨S320000x64, .f32⟩
  | .hbm, ⟨11, _⟩ => ⟨S320000x1, .f32⟩
  | .hbm, ⟨12, _⟩ => ⟨S1x1, .f32⟩
  | .hbm, ⟨13, _⟩ => ⟨S320000x1, .f32⟩
  | .hbm, ⟨14, _⟩ => ⟨S320000x1, .f32⟩
  | .hbm, ⟨15, _⟩ => ⟨S320000, .f32⟩
  | .hbm, ⟨16, _⟩ => ⟨S10000, .i32⟩
  | .hbm, ⟨17, _⟩ => ⟨S10000x1, .i32⟩
  | .hbm, ⟨18, _⟩ => ⟨S1x320000, .i32⟩
  | .hbm, ⟨19, _⟩ => ⟨S10000x320000, .i32⟩
  | .hbm, ⟨20, _⟩ => ⟨S10000x320000, .i32⟩
  | .hbm, ⟨21, _⟩ => ⟨S10000x320000, .i1⟩
  | .hbm, ⟨22, _⟩ => ⟨S1x320000, .f32⟩
  | .hbm, ⟨23, _⟩ => ⟨S_, .f32⟩
  | .hbm, ⟨24, _⟩ => ⟨S_, .f32⟩
  | .hbm, ⟨25, _⟩ => ⟨S10000x320000, .f32⟩
  | .hbm, ⟨26, _⟩ => ⟨S10000x320000, .f32⟩
  | .hbm, ⟨27, _⟩ => ⟨S10000x320000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .i1⟩
  | .hbm, ⟨34, _⟩ => ⟨S_, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S320000, .f32⟩
  | .hbm, ⟨47, _⟩ => ⟨S320000, .f32⟩
  | .hbm, ⟨48, _⟩ => ⟨S320000, .f32⟩
  | .hbm, ⟨49, _⟩ => ⟨S_, .f32⟩
  | .hbm, ⟨50, _⟩ => ⟨S10000, .f32⟩
  | .hbm, ⟨51, _⟩ => ⟨S320000x1, .i32⟩
  | .hbm, ⟨52, _⟩ => ⟨S10000, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000, .f32⟩
  | .hbm, ⟨62, _⟩ => ⟨S320000, .f32⟩
  | .hbm, ⟨63, _⟩ => ⟨S320000x1, .f32⟩
  | .hbm, ⟨64, _⟩ => ⟨S320000x128, .f32⟩
  | .hbm, ⟨65, _⟩ => ⟨S320000x128, .f32⟩
  | .hbm, ⟨66, _⟩ => ⟨S_, .f32⟩
  | .hbm, ⟨67, _⟩ => ⟨S10000x128, .f32⟩
  | .hbm, ⟨68, _⟩ => ⟨S320000x1, .i32⟩
  | .hbm, ⟨69, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.Pre.lean ====
/-
  The precondition `last_block_used`, read back: some segment id is at least 9984. With it, what a printed comparison or a
  printed `any` says when its word is 1.
-/
module

public import proofs.«01_k».proof.Proof.Gen.Pre_last_block_used
public import Idealize.ShloMosaic.Lib.ReduceAll
public import Idealize.ShloMosaic.Lib.WordCmp
public import Idealize.ShloMosaic.Lib.ValueIdxCore
public import Idealize.ShloMosaic.PureOps.Ideal

@[expose] public section

namespace Cert.PoolPre

open Idealize.ShloMosaic Idealize.ShloMosaic.ValueIdx

/-- A left fold by `or` over one-bit words, started at 0, that came out 1 met a 1. -/
theorem foldl_ori_one {ι : Type} (f : ι → BitVec 1) : ∀ (l : List ι) (init : BitVec 1),
    l.foldl (fun r n => IntOp.ori r (f n)) init = 1#1 → init = 1#1 ∨ ∃ n ∈ l, f n = 1#1
  | [], _, h => Or.inl h
  | a :: l, init, h => by
    rcases foldl_ori_one f l _ h with h' | ⟨n, hn, e⟩
    · have : ∀ p q : BitVec 1, IntOp.ori p q = 1#1 → p = 1#1 ∨ q = 1#1 := by decide
      rcases this _ _ h' with h'' | h''
      · exact Or.inl h''
      · exact Or.inr ⟨a, List.mem_cons_self .., h''⟩
    · exact Or.inr ⟨n, List.mem_cons_of_mem _ hn, e⟩

/-- A reduce by `or`, started at 0, that is 1 had a 1 somewhere. -/
theorem reduce_ori_exists {s t u : Shape} {axes : List (Fin s.rank)} (x : s.Idx → BitVec 1) (init : u.Idx → BitVec 1)
    (h : s.ReducesTo axes t) (hu : 0 < u.numel) (j : t.Idx) (hi : init (Shape.Idx.first hu) = 0#1)
    (e : Host.reduce IntOp.ori x init h hu j = 1#1) : ∃ i, x i = 1#1 := by
  rw [Host.reduce_eq_foldl] at e
  rcases foldl_ori_one x _ _ e with h' | ⟨n, _, e'⟩
  · rw [hi] at h'; exact absurd h' (by decide)
  · exact ⟨n, e'⟩

/-- The one index of a scalar's shape. -/
abbrev at0 : (⟨0, ![]⟩ : Shape).Idx := ValueIdx.ix0

/-- A signed `≤` that is 1 is the order of the integers. -/
theorem le_of_sle {x y : BitVec 32} (h : IntOp.cmpi .sle x y = 1#1) : x.toInt ≤ y.toInt := by
  by_contra hn
  have : BitVec.sle x y = false := by simpa [BitVec.sle] using hn
  simp [IntOp.cmpi, this] at h

/-- A signed `<` that is 1 is the order of the integers. -/
theorem lt_of_slt {x y : BitVec 32} (h : IntOp.cmpi .slt x y = 1#1) : x.toInt < y.toInt := by
  by_contra hn
  have : BitVec.slt x y = false := by simpa [BitVec.slt] using hn
  simp [IntOp.cmpi, this] at h

/-- A signed `≥` that is 1 is the order of the integers. -/
theorem ge_of_sge {x y : BitVec 32} (h : IntOp.cmpi .sge x y = 1#1) : y.toInt ≤ x.toInt := by
  by_contra hn
  have : BitVec.sle y x = false := by simpa [BitVec.sle] using hn
  simp [IntOp.cmpi, this] at h

/-- An absolute value compared below plus infinity with the answer 1 is below it. -/
theorem lt_top_of_olt {x : Ideal .f32} (h : Ideal.cmp .olt (max x (-x)) (FloatOps.ofBits .f32 0x7F800000#32 : Ideal .f32) = 1#1) :
    max (x : EReal) (-(x : EReal)) < ⊤ := by
  have top : (FloatOps.ofBits .f32 0x7F800000#32 : Ideal .f32) = (⊤ : EReal) := by
    simp [FloatOps.ofBits, Ideal.ofBits, Ideal.ieee]
  rw [top] at h
  by_contra hn
  simp [Ideal.cmp, hn] at h

section Used
variable [Cert.Pre_last_block_used.Facts] {F : FTy → Type} [FloatOps F]

/-- `last_block_used` says some id is at least 9984. -/
theorem used_of_pre (a0 : FVec F Pre_last_block_used.S320000x128 .f32) (b : IVec Pre_last_block_used.S320000 32)
    (a2 : FVec F Pre_last_block_used.S128x64 .f32) (a3 : FVec F Pre_last_block_used.S64 .f32)
    (a4 : FVec F Pre_last_block_used.S64x1 .f32) (a5 : FVec F Pre_last_block_used.S1 .f32)
    (h : Pre_last_block_used.fn a0 b a2 a3 a4 a5 = fun _ => 1#1) : ∃ x, 9984 ≤ (b x).toInt := by
  obtain ⟨x, hx⟩ := reduce_ori_exists _ _ _ _ _ rfl (congrFun h at0)
  exact ⟨x, ge_of_sge (y := 9984#32) hx⟩

end Used

end Cert.PoolPre

end
-- ==== Proof.Inputs.lean ====
/-
  The precondition `pool_inputs`, read back as a statement about the argument arrays: the segment ids are sorted
  and reach the last block; the last layer's weights and bias are finite.
-/
module

public import proofs.«01_k».proof.Proof.Pre
public import proofs.«01_k».proof.Proof.Gen.Pre_pool_inputs

@[expose] public section

namespace Cert.PoolPre

open Idealize.ShloMosaic Idealize.ShloMosaic.ValueIdx

section Inputs
variable [Cert.Pre_pool_inputs.Facts]

/-- What `pool_inputs` says of the arguments. -/
structure Inputs (b : IVec Pre_pool_inputs.S320000 32) (a4 : FVec Ideal Pre_pool_inputs.S64x1 .f32)
    (a5 : FVec Ideal Pre_pool_inputs.S1 .f32) : Prop where
  /-- The ids are sorted. -/
  sorted : ∀ i : ℕ, (hi : i + 1 < 320000) → (b (ix1 ⟨i, Nat.lt_of_succ_lt hi⟩)).toInt ≤ (b (ix1 ⟨i + 1, hi⟩)).toInt
  /-- Some id is at least 9984. -/
  used : ∃ x, 9984 ≤ (b x).toInt
  /-- The last layer's weights are finite. -/
  weight : ∀ x, max (a4 x : EReal) (-(a4 x : EReal)) < ⊤
  /-- The last layer's bias is finite. -/
  bias : ∀ x, max (a5 x : EReal) (-(a5 x : EReal)) < ⊤

/-- `pool_inputs`, read back. -/
theorem inputs_of_pre (a0 : FVec Ideal Pre_pool_inputs.S320000x128 .f32) (b : IVec Pre_pool_inputs.S320000 32)
    (a2 : FVec Ideal Pre_pool_inputs.S128x64 .f32) (a3 : FVec Ideal Pre_pool_inputs.S64 .f32)
    (a4 : FVec Ideal Pre_pool_inputs.S64x1 .f32) (a5 : FVec Ideal Pre_pool_inputs.S1 .f32)
    (h : Pre_pool_inputs.fn a0 b a2 a3 a4 a5 = fun _ => 1#1) : Inputs b a4 a5 := by
  have e := congrFun h at0
  unfold Pre_pool_inputs.fn Pre_pool_inputs.fn_part1 at e
  obtain ⟨hsu, hf⟩ := IntOp.andi_eq_one.1 e
  obtain ⟨hs, hu⟩ := IntOp.andi_eq_one.1 hsu
  obtain ⟨hw, hb⟩ := IntOp.andi_eq_one.1 hf
  refine ⟨fun i hi => ?_, ?_, fun x => ?_, fun x => ?_⟩
  · have := le_of_sle (Host.reduce_andi_eq_one _ _ _ _ _ hs (ix1 ⟨i, by omega⟩) (Subsingleton.elim _ _))
    refine (congrArg (fun z => (b z).toInt) ?_).trans_le (this.trans_eq (congrArg (fun z => (b z).toInt) ?_))
    · funext k; obtain rfl := Subsingleton.elim k 0; exact Fin.ext (Nat.zero_add i).symm
    · funext k; obtain rfl := Subsingleton.elim k 0; exact Fin.ext (Nat.add_comm 1 i)
  · obtain ⟨x, hx⟩ := reduce_ori_exists _ _ _ _ _ rfl hu
    exact ⟨x, ge_of_sge (y := 9984#32) hx⟩
  · exact lt_top_of_olt (Host.reduce_andi_eq_one _ _ _ _ _ hw x (Subsingleton.elim _ _))
  · exact lt_top_of_olt (Host.reduce_andi_eq_one _ _ _ _ _ hb x (Subsingleton.elim _ _))

end Inputs

end Cert.PoolPre

end
-- ==== Proof.Body.lean ====
/-
  One grid point of the pooling kernel: what it leaves in the block of the result it is
  working on and in the row of denominators, as a function of the words of the schedule,
  of the tile of rows it is handed and of what the two held before.
-/
module

public import proofs.«01_k».proof.Defs
public import proofs.«01_k».proof.Proof.Gen.KernelIdeal.Launch
public import proofs.«01_k».proof.Proof.Gen.KernelIdeal.Skeleton
public import Idealize.ShloMosaic.Lib.Pipeline.KitQuiescent
public import Idealize.ShloMosaic.Lib.Pipeline.TableIdle
public import Idealize.ShloMosaic.Lib.Pipeline.FrameSuffix
public import Idealize.ShloMosaic.Lib.Pipeline.FrameBody
public import Idealize.ShloMosaic.Lib.Tactic

@[expose] public section

noncomputable section

namespace Cert.PoolBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The schedule's entry in row `k`, column `e`. -/
def cell (k : Fin 5) (e : Fin 279) : S5x279.Idx
  | ⟨0, _⟩ => k
  | ⟨1, _⟩ => e

/-- The column of a grid point. -/
def col (i : grid0.Coords) : Fin 279 := i 0

/-- The block of the result after one point: started at the tile's products where the point
    is valid and first, added to where it is valid and not first, and divided by the
    denominators (`d`, those after this point) where it is last. -/
def stepO (seg first last valid : BitVec 32) (ht : Vec F S1600x128 .f32) (w1 : Vec F S128x64 .f32)
    (b1 : Vec F S1x64 .f32) (w2 : Vec F S64x8 .f32) (bt : Vec F S1x1x1600 .i32)
    (o : Vec F S128x128 .f32) (d : Vec F S1x128 .f32) : Vec F S128x128 .f32 :=
  let o1 := if k0_cond1 valid = 1#1 ∧ k0_cond2 first = 1#1 then k0_pay2 seg ht w1 b1 w2 bt else o
  let o2 := if k0_cond1 valid = 1#1 ∧ k0_cond3 first = 1#1 then k0_pay5 seg ht w1 b1 w2 bt o1 else o1
  if k0_cond4 last = 1#1 then k0_pay7 d o2 else o2

/-- The row of denominators after one point. -/
def stepD (seg first valid : BitVec 32) (ht : Vec F S1600x128 .f32) (w1 : Vec F S128x64 .f32)
    (b1 : Vec F S1x64 .f32) (w2 : Vec F S64x8 .f32) (bt : Vec F S1x1x1600 .i32)
    (d : Vec F S1x128 .f32) : Vec F S1x128 .f32 :=
  let d1 := if k0_cond1 valid = 1#1 ∧ k0_cond2 first = 1#1 then k0_pay4 seg ht w1 b1 w2 bt else d
  if k0_cond1 valid = 1#1 ∧ k0_cond3 first = 1#1 then k0_pay6 seg ht w1 b1 w2 bt d1 else d1

/-! ### A load and a store of a whole buffer -/

section Whole

variable (c : Dev nD) (E : Set ℕ) {s : Shape} {e : EltTy}

/-- The rectangle of a shape's own sizes at zero offsets names every index by itself. -/
theorem emb_zero {off : Fin s.rank → ℕ} (h : off = fun _ => 0) (inb : ∀ a, off a + s.size a ≤ s.size a)
    (y : s.Idx) : (Rect.unit off s.size inb).emb y = y := by
  subst h; exact Rect.emb_whole_apply _ y

/-- Loading the whole of a buffer gives what it holds. -/
theorem wp_load_all {m : Memref sig .tc .vmem s e} {off : Fin s.rank → ℕ} (h : off = fun _ => 0)
    (inb : ∀ a, off a + s.size a ≤ s.size a) {hl} {q : PosShare TreeShare} {X : s.Idx → Elt F e}
    {k : (s.Idx → Elt F e) → Prog (TpuEff nD τ sig (Elt F) Λ₀ .tc) PUnit} {Q : PUnit → sProp 𝕄} :
    (owns (c : Thread nD τ) m q X : sProp 𝕄)
      ⊢ iprop((owns (c : Thread nD τ) m q X -∗ wp frame (wpE (defs₀ (F := F)) Variants.none c none) E (k X) Q)
        -∗ wp frame (wpE (defs₀ (F := F)) Variants.none c none) E
            (.op (.load m (Rect.unit off s.size inb).toLoadRect hl) k) Q) := by
  unfold owns
  iintro ⟨%f, %hf, H⟩ Hk
  iapply (wp_load_rect (defs := defs₀ (F := F)) Variants.none (c : Thread nD τ) none E (m := m)
    (r := Rect.unit off s.size inb) (View.set_slice_subset _ _)) $$ H
  iintro H
  have e : (m.access (Rect.unit off s.size inb)).read (Elt F) f = X := by
    funext y
    rw [← hf]
    show cast _ (f (m.view.emb ((Rect.unit off s.size inb).emb y))) = _
    rw [emb_zero h]; rfl
  rw [e]
  iapply Hk
  iexists f
  isplitr
  · ipureintro; exact hf
  · iexact H

/-- Storing the whole of a buffer leaves it holding the payload. -/
theorem wp_store_all {m : Memref sig .tc .vmem s e} {off : Fin s.rank → ℕ} (h : off = fun _ => 0)
    (inb : ∀ a, off a + s.size a ≤ s.size a) {hx hm} {X w : s.Idx → Elt F e}
    {k : PUnit → Prog (TpuEff nD τ sig (Elt F) Λ₀ .tc) PUnit} {Q : PUnit → sProp 𝕄} :
    (owns (c : Thread nD τ) m fullShare X : sProp 𝕄)
      ⊢ iprop((owns (c : Thread nD τ) m fullShare w -∗ wp frame (wpE (defs₀ (F := F)) Variants.none c none) E (k ⟨⟩) Q)
        -∗ wp frame (wpE (defs₀ (F := F)) Variants.none c none) E
            (.op (.store m (Rect.unit off s.size inb) w Finset.univ hx hm) k) Q) := by
  unfold owns
  iintro ⟨%f, %hf, H⟩ Hk
  iapply (wp_store (defs := defs₀ (F := F)) Variants.none (c : Thread nD τ) none E (m := m)
    (r := Rect.unit off s.size inb) (Mk := Finset.univ) (View.set_slice_subset _ _)) $$ H
  iintro H
  iapply Hk
  iexists _
  isplitr
  swap
  · iexact H
  · ipureintro
    funext y
    conv_lhs => rw [← emb_zero h inb y]
    rw [View.read_slice_write_emb _ _ _ (Finset.mem_univ _)]

end Whole

/-- Loading a word of the schedule gives its entry there. -/
theorem wp_load_word (c : Dev nD) (E : Set ℕ) {off : Fin 2 → ℕ} (inb : ∀ a, off a + S1x1.size a ≤ S5x279.size a)
    {h1 hp} {x : S5x279.Idx} (hx : ∀ a, off a = (x a).val) {q : PosShare TreeShare} {T : Vec F S5x279 .i32} {Q : Elt F .i32 → sProp 𝕄} :
    ((((c : Thread nD τ).loc main_v70) ↦{q} T) : sProp 𝕄)
      ⊢ iprop(((((c : Thread nD τ).loc main_v70) ↦{q} T) -∗ Q (T x))
        -∗ wp frame (wpE (defs₀ (F := F)) Variants.none c none) E
            (smemLoad (Val := Elt F) (Λ := Λ₀) (nD := nD) (Memref.whole main_v70) (Rect.unit (s := S5x279) off S1x1.size inb) h1 hp) Q) := by
  iintro H Hk
  unfold smemLoad
  iapply (wp_smemLoadElt (defs := defs₀ (F := F)) Variants.none (c : Thread nD τ) none E
    (m := Memref.whole main_v70) (r := Rect.unit (s := S5x279) off S1x1.size inb) (q := q) (f := T)
    (Finset.subset_univ _)) $$ H
  iintro H
  rw [wp_ret]
  imodintro
  have e : ((Memref.whole main_v70).access (Rect.unit (s := S5x279) off S1x1.size inb)).read (Elt F) T
      (Shape.Idx.first (h1.symm ▸ Nat.one_pos)) = T x := by
    show T _ = T x
    congr 1
    funext a
    apply Fin.ext
    show off a + 1 * 0 = _
    rw [hx a]; rfl
  rw [e]
  iapply Hk
  iexact H

/-- The zero offsets of a rank-two block. -/
theorem zero2 : (![0, 0] : Fin 2 → ℕ) = fun _ => 0 := by funext a; fin_cases a <;> rfl
/-- The kernel's offsets of a word, as an entry of the schedule. -/
theorem off_word (i : grid0.Coords) {k : Fin 5} {off : Fin 2 → ℕ}
    (h : off = ![k.val, (Scalar.indexCast (BitVec.ofNat 32 (i 0).val) : Index).toNat]) (a : Fin 2) :
    off a = (cell k (col i) a).val := by
  have hi : (i 0).val < 279 := (i 0).isLt
  have e : (Scalar.indexCast (BitVec.ofNat 32 (i 0).val) : Index).toNat = (i 0).val := by
    show (BitVec.ofNat 32 (i 0).val).toNat = _
    rw [BitVec.toNat_ofNat]; omega
  rw [h, e]
  fin_cases a <;> rfl

/-- The word of a point's block of segments is in row 1 of the schedule. -/
theorem k0_off2_eq (i : grid0.Coords) :
    k0_off2 i = ![(1 : Fin 5).val, (Scalar.indexCast (BitVec.ofNat 32 (i 0).val) : Index).toNat] := rfl
/-- The word that marks a block's first point is in row 2 of the schedule. -/
theorem k0_off3_eq (i : grid0.Coords) :
    k0_off3 i = ![(2 : Fin 5).val, (Scalar.indexCast (BitVec.ofNat 32 (i 0).val) : Index).toNat] := rfl
/-- The word that marks a block's last point is in row 3 of the schedule. -/
theorem k0_off4_eq (i : grid0.Coords) :
    k0_off4 i = ![(3 : Fin 5).val, (Scalar.indexCast (BitVec.ofNat 32 (i 0).val) : Index).toNat] := rfl
/-- The word that marks a point with work to do is in row 4 of the schedule. -/
theorem k0_off5_eq (i : grid0.Coords) :
    k0_off5 i = ![(4 : Fin 5).val, (Scalar.indexCast (BitVec.ofNat 32 (i 0).val) : Index).toNat] := rfl

/-- The zero offsets of a rank-three block. -/
theorem zero3 : (![0, 0, 0] : Fin 3 → ℕ) = fun _ => 0 := by funext a; fin_cases a <;> rfl

set_option maxHeartbeats 1000000 in
/-- One run of the body: it leaves its inputs as they were, and the output block and the row of denominators hold `stepO` and
    `stepD` of what they held. -/
theorem body_triple (c : Dev nD) (E : Set ℕ) (i : grid0.Coords)
    (arg2 : Memref sig .tc .vmem S1x1x1600 .i32) (harg2 : arg2.IsWhole)
    (arg3 : Memref sig .tc .vmem S1600x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x8 .f32) (harg6 : arg6.IsWhole)
    (arg7 : Memref sig .tc .vmem S128x128 .f32) (harg7 : arg7.IsWhole)
    (arg8 : Memref sig .tc .vmem S1x128 .f32) (harg8 : arg8.IsWhole)
    (T : Vec F S5x279 .i32) (x2 : Vec F S1x1x1600 .i32) (x3 : Vec F S1600x128 .f32)
    (x4 : Vec F S128x64 .f32) (x5 : Vec F S1x64 .f32) (x6 : Vec F S64x8 .f32)
    (o : Vec F S128x128 .f32) (d : Vec F S1x128 .f32) (K : PUnit → sProp 𝕄) :
    iprop((((c : Thread nD τ).loc main_v70) ↦{fullShare.right} T)
        ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6
        ∗ owns (c : Thread nD τ) arg7 fullShare o ∗ owns (c : Thread nD τ) arg8 fullShare d
        ∗ (iprop((((c : Thread nD τ).loc main_v70) ↦{fullShare.right} T)
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6
            ∗ owns (c : Thread nD τ) arg7 fullShare (stepO (T (cell 1 (col i))) (T (cell 2 (col i))) (T (cell 3 (col i))) (T (cell 4 (col i))) x3 x4 x5 x6 x2 o
                (stepD (T (cell 1 (col i))) (T (cell 2 (col i))) (T (cell 4 (col i))) x3 x4 x5 x6 x2 d))
            ∗ owns (c : Thread nD τ) arg8 fullShare (stepD (T (cell 1 (col i))) (T (cell 2 (col i))) (T (cell 4 (col i))) x3 x4 x5 x6 x2 d)) -∗ K ⟨⟩))
      ⊢ wp frame (wpE (defs₀ (F := F)) Variants.none c none) E
          (cc0__pool_body i (Memref.whole main_v70) (Memref.isWhole_whole _) arg2 harg2 arg3 harg3 arg4 harg4 arg5 harg5 arg6 harg6 arg7 harg7 arg8 harg8) K := by
  simp only [cc0__pool_body_eq_skeleton]; unfold cc0__pool_body_skel
  simp only [wp_bind]
  iintro ⟨HT, H2, H3, H4, H5, H6, H7, H8, Hk⟩
  iapply (wp_load_word c E (x := cell 1 (col i)) (k0_off2_inb i) (off_word i (k0_off2_eq i))) $$ HT
  iintro HT
  iapply (wp_load_word c E (x := cell 2 (col i)) (k0_off3_inb i) (off_word i (k0_off3_eq i))) $$ HT
  iintro HT
  iapply (wp_load_word c E (x := cell 3 (col i)) (k0_off4_inb i) (off_word i (k0_off4_eq i))) $$ HT
  iintro HT
  iapply (wp_load_word c E (x := cell 4 (col i)) (k0_off5_inb i) (off_word i (k0_off5_eq i))) $$ HT
  iintro HT
  by_cases h1 : k0_cond1 (T (cell 4 (col i))) = 1#1
  · simp only [stepO, stepD, h1, true_and, false_and, if_true, if_false, dite_true, dite_false, Prog.lift,
        Prog.bind_op, Prog.bind_ret, Prog.pure_eq_ret]
    iapply (wp_load_all c E zero2 _) $$ H3; iintro H3
    iapply (wp_load_all c E zero2 _) $$ H4; iintro H4
    iapply (wp_load_all c E zero2 _) $$ H5; iintro H5
    iapply (wp_load_all c E zero2 _) $$ H6; iintro H6
    iapply (wp_load_all c E zero3 _) $$ H2; iintro H2
    by_cases h2 : k0_cond2 (T (cell 2 (col i))) = 1#1
    case' pos =>
      simp only [h2, true_and, false_and, if_true, if_false, dite_true, dite_false, Prog.lift,
        Prog.bind_op, Prog.bind_ret, Prog.pure_eq_ret]
      iapply (wp_load_all c E zero2 _) $$ H7; iintro H7
      iapply (wp_store_all c E zero2 _) $$ H7; iintro H7
      iapply (wp_load_all c E zero2 _) $$ H8; iintro H8
      iapply (wp_store_all c E zero2 _) $$ H8; iintro H8
    case' neg => simp only [h2, true_and, false_and, if_true, if_false, dite_true, dite_false, Prog.lift,
        Prog.bind_op, Prog.bind_ret, Prog.pure_eq_ret]
    all_goals
      by_cases h3 : k0_cond3 (T (cell 2 (col i))) = 1#1
      case' pos =>
        simp only [h3, true_and, false_and, if_true, if_false, dite_true, dite_false, Prog.lift,
        Prog.bind_op, Prog.bind_ret, Prog.pure_eq_ret]
        iapply (wp_load_all c E zero2 _) $$ H7; iintro H7
        iapply (wp_load_all c E zero2 _) $$ H7; iintro H7
        iapply (wp_store_all c E zero2 _) $$ H7; iintro H7
        iapply (wp_load_all c E zero2 _) $$ H8; iintro H8
        iapply (wp_load_all c E zero2 _) $$ H8; iintro H8
        iapply (wp_store_all c E zero2 _) $$ H8; iintro H8
      case' neg => simp only [h3, true_and, false_and, if_true, if_false, dite_true, dite_false, Prog.lift,
        Prog.bind_op, Prog.bind_ret, Prog.pure_eq_ret]
      all_goals
        by_cases h4 : k0_cond4 (T (cell 3 (col i))) = 1#1
        case' pos =>
          simp only [h4, true_and, false_and, if_true, if_false, dite_true, dite_false, Prog.lift,
        Prog.bind_op, Prog.bind_ret, Prog.pure_eq_ret]
          iapply (wp_load_all c E zero2 _) $$ H8; iintro H8
          iapply (wp_load_all c E zero2 _) $$ H7; iintro H7
          iapply (wp_load_all c E zero2 _) $$ H7; iintro H7
          iapply (wp_store_all c E zero2 _) $$ H7; iintro H7
        case' neg => simp only [h4, true_and, false_and, if_true, if_false, dite_true, dite_false, Prog.lift,
        Prog.bind_op, Prog.bind_ret, Prog.pure_eq_ret]
        all_goals
          rw [wp_ret]
          imodintro
          iapply Hk
          isplitl [HT]; · iexact HT
          isplitl [H2]; · iexact H2
          isplitl [H3]; · iexact H3
          isplitl [H4]; · iexact H4
          isplitl [H5]; · iexact H5
          isplitl [H6]; · iexact H6
          isplitl [H7]; · iexact H7
          iexact H8
  · simp only [stepO, stepD, h1, true_and, false_and, if_true, if_false, dite_true, dite_false, Prog.lift,
        Prog.bind_op, Prog.bind_ret, Prog.pure_eq_ret]
    by_cases h4 : k0_cond4 (T (cell 3 (col i))) = 1#1
    case' pos =>
      simp only [h4, true_and, false_and, if_true, if_false, dite_true, dite_false, Prog.lift,
        Prog.bind_op, Prog.bind_ret, Prog.pure_eq_ret]
      iapply (wp_load_all c E zero2 _) $$ H8; iintro H8
      iapply (wp_load_all c E zero2 _) $$ H7; iintro H7
      iapply (wp_load_all c E zero2 _) $$ H7; iintro H7
      iapply (wp_store_all c E zero2 _) $$ H7; iintro H7
    case' neg => simp only [h4, true_and, false_and, if_true, if_false, dite_true, dite_false, Prog.lift,
        Prog.bind_op, Prog.bind_ret, Prog.pure_eq_ret]
    all_goals
      rw [wp_ret]
      imodintro
      iapply Hk
      isplitl [HT]; · iexact HT
      isplitl [H2]; · iexact H2
      isplitl [H3]; · iexact H3
      isplitl [H4]; · iexact H4
      isplitl [H5]; · iexact H5
      isplitl [H6]; · iexact H6
      isplitl [H7]; · iexact H7
      iexact H8

end Cert.PoolBody

end
-- ==== Proof.Pass.lean ====
/-
  The pass over the grid: what the block of the result being worked on and the row of
  denominators hold between the points, for a schedule whose blocks each start at a valid
  first point, and the obligation the pipeline asks of the body at every point.
-/
module

public import proofs.«01_k».proof.Proof.Body

@[expose] public section

noncomputable section

namespace Cert.PoolBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- What the pass needs of the schedule: tiles and blocks inside their arrays, the first point
    valid and first, and every point at which the block changes valid and first. -/
structure Sched (T : S5x279.Idx → BitVec 32) : Prop where
  tile_le : ∀ e, (T (cell 0 e)).toNat ≤ 199
  seg_le : ∀ e, (T (cell 1 e)).toNat ≤ 78
  start : T (cell 4 0) = 1#32 ∧ T (cell 2 0) = 1#32
  turn : ∀ (n : ℕ) (h : n + 1 < 279), T (cell 1 ⟨n + 1, h⟩) ≠ T (cell 1 ⟨n, Nat.lt_of_succ_lt h⟩) →
    T (cell 4 ⟨n + 1, h⟩) = 1#32 ∧ T (cell 2 ⟨n + 1, h⟩) = 1#32

/-! ### The schedule as the index maps and the idle points read it -/

/-- A one-word rectangle of the schedule names one entry. -/
theorem emb_word {off : Fin 2 → ℕ} (inb : ∀ a, off a + S1x1.size a ≤ S5x279.size a) {x : S5x279.Idx}
    (hx : ∀ a, off a = (x a).val) (y : S1x1.Idx) : (Rect.unit (s := S5x279) off S1x1.size inb).emb y = x := by
  funext a
  apply Fin.ext
  have hy : (y a).val = 0 := by
    have h := (y a).isLt
    have : S1x1.size a = 1 := by fin_cases a <;> rfl
    omega
  show off a + 1 * (y a).val = _
  rw [hy, hx a]; rfl

/-- The word of a point's tile is in row 0 of the schedule. -/
theorem k0_off1_eq (i : grid0.Coords) :
    k0_off1 i = ![(0 : Fin 5).val, (Scalar.indexCast (BitVec.ofNat 32 (i 0).val) : Index).toNat] := rfl

/-- The block of ids a point takes is the tile that the schedule names. -/
theorem tile_index (pf : pre0.Contents (Elt F)) (i : grid0.Coords) :
    cc0_transform_0 k0_off1_inb numel1_S1x1 pf i = ![((pf 0 : S5x279.Idx → BitVec 32) (cell 0 (col i))).toNat, 0, 0] := by
  have e : (pf.at 0 (Rect.unit (s := S5x279) (k0_off1 i) S1x1.size (k0_off1_inb i)) numel1_S1x1 : BitVec 32)
      = (pf 0 : S5x279.Idx → BitVec 32) (cell 0 (col i)) := by
    show (pf 0 : S5x279.Idx → BitVec 32) _ = _
    exact congrArg _ (emb_word (k0_off1_inb i) (off_word i (k0_off1_eq i)) _)
  show ![BitVec.toNat _, 0, 0] = _
  rw [← e]; rfl

/-- The block of rows a point takes is the tile that the schedule names. -/
theorem tile_index1 (pf : pre0.Contents (Elt F)) (i : grid0.Coords) :
    cc0_transform_1 k0_off1_inb numel1_S1x1 pf i = ![((pf 0 : S5x279.Idx → BitVec 32) (cell 0 (col i))).toNat, 0] := by
  have e : (pf.at 0 (Rect.unit (s := S5x279) (k0_off1 i) S1x1.size (k0_off1_inb i)) numel1_S1x1 : BitVec 32)
      = (pf 0 : S5x279.Idx → BitVec 32) (cell 0 (col i)) := by
    show (pf 0 : S5x279.Idx → BitVec 32) _ = _
    exact congrArg _ (emb_word (k0_off1_inb i) (off_word i (k0_off1_eq i)) _)
  show ![BitVec.toNat _, 0] = _
  rw [← e]; rfl

/-- The block of the result a point writes is the one that the schedule names. -/
theorem seg_index (pf : pre0.Contents (Elt F)) (i : grid0.Coords) :
    cc0_transform_5 k0_off2_inb numel1_S1x1 pf i = ![((pf 0 : S5x279.Idx → BitVec 32) (cell 1 (col i))).toNat, 0] := by
  have e : (pf.at 0 (Rect.unit (s := S5x279) (k0_off2 i) S1x1.size (k0_off2_inb i)) numel1_S1x1 : BitVec 32)
      = (pf 0 : S5x279.Idx → BitVec 32) (cell 1 (col i)) := by
    show (pf 0 : S5x279.Idx → BitVec 32) _ = _
    exact congrArg _ (emb_word (k0_off2_inb i) (off_word i (k0_off2_eq i)) _)
  show ![BitVec.toNat _, 0] = _
  rw [← e]; rfl

/-- A word of the schedule as the idle table reads it. -/
theorem atD_word (pf : pre0.Contents (Elt F)) {off : Fin 2 → ℕ} (inb : ∀ a, off a + S1x1.size a ≤ S5x279.size a)
    {x : S5x279.Idx} (hx : ∀ a, off a = (x a).val) : (pf.atD 0 off : BitVec 32) = (pf 0 : S5x279.Idx → BitVec 32) x := by
  have hin : ∀ a, off a + 1 ≤ S5x279.size a := fun a => by
    have h := inb a
    have : S1x1.size a = 1 := by fin_cases a <;> rfl
    omega
  unfold Pipeline.Prefetch.Contents.atD
  refine (dif_pos (show ∀ a : Fin (pre0.ref 0).ty.shape.rank, off a + 1 ≤ (pre0.ref 0).ty.shape.size a from hin)).trans ?_
  exact congrArg (pf 0 : S5x279.Idx → BitVec 32) (funext fun a => Fin.ext (hx a))

/-- Every tile and block the schedule names lies inside its array. -/
theorem Sched.ok {pf : pre0.Contents (Elt F)} (h : Sched (pf 0)) : ok0 pf := by
  refine ⟨fun i => ⟨fun a => ?_, .inl rfl⟩, fun i => ⟨fun a => ?_, .inl rfl⟩, fun i => ⟨fun a => ?_, .inl rfl⟩⟩
  · rw [tile_index]
    have := h.tile_le (col i)
    fin_cases a
    · show (BitVec.toNat _ + 1) * 1 ≤ 200
      omega
    · show (0 + 1) * 1 ≤ 1
      omega
    · show (0 + 1) * 1600 ≤ 1600
      omega
  · rw [tile_index1]
    have := h.tile_le (col i)
    fin_cases a
    · show (BitVec.toNat _ + 1) * 1600 ≤ 320000
      omega
    · show (0 + 1) * 128 ≤ 128
      omega
  · rw [seg_index]
    have := h.seg_le (col i)
    fin_cases a
    · show (BitVec.toNat _ + 1) * 128 ≤ 10112
      omega
    · show (0 + 1) * 128 ≤ 128
      omega

/-- The schedule as contents the pipeline admits. -/
@[reducible] def adm {pf : pre0.Contents (Elt F)} (h : Sched (pf 0)) : (pcfg0 (F := F)).Adm := ⟨pf, h.ok⟩

/-! ### The conditions of the body, as equations of words -/

/-- The body works on a point whose valid word is 1. -/
theorem cond1_iff (w : BitVec 32) : k0_cond1 w = 1#1 ↔ w = 1#32 := by
  show (Scalar.cmpi .ne (Scalar.extui (Scalar.cmpi .eq w 1#32)) 0#32 : BitVec 1) = 1#1 ↔ _
  by_cases h : w = 1#32
  · subst h; exact ⟨fun _ => rfl, fun _ => by decide⟩
  · refine ⟨fun e => absurd e ?_, fun e => absurd e h⟩
    have e1 : (Scalar.cmpi .eq w 1#32 : BitVec 1) = 0#1 := by
      show BitVec.ofBool (w == 1#32) = 0#1
      rw [beq_eq_false_iff_ne.mpr h]; rfl
    rw [e1]; decide

/-- It starts the block where the first word is 1. -/
theorem cond2_iff (w : BitVec 32) : k0_cond2 w = 1#1 ↔ w = 1#32 := cond1_iff w

/-- It ends the block where the last word is 1. -/
theorem cond4_iff (w : BitVec 32) : k0_cond4 w = 1#1 ↔ w = 1#32 := cond1_iff w

/-- It does not add where the first word is 1. -/
theorem cond3_one : k0_cond3 1#32 ≠ 1#1 := by decide

/-- At a valid first point the block ends at something that does not depend on what it held, -/
theorem stepO_first (seg last : BitVec 32) (ht : Vec F S1600x128 .f32) (w1 : Vec F S128x64 .f32)
    (b1 : Vec F S1x64 .f32) (w2 : Vec F S64x8 .f32) (bt : Vec F S1x1x1600 .i32)
    (o o' : Vec F S128x128 .f32) (d : Vec F S1x128 .f32) :
    stepO seg 1#32 last 1#32 ht w1 b1 w2 bt o d = stepO seg 1#32 last 1#32 ht w1 b1 w2 bt o' d := by
  have h1 : k0_cond1 1#32 = 1#1 := (cond1_iff _).mpr rfl
  have h2 : k0_cond2 1#32 = 1#1 := (cond2_iff _).mpr rfl
  simp only [stepO, h1, h2, cond3_one, and_false, and_self, if_true, if_false]

/-- and so do the denominators. -/
theorem stepD_first (seg : BitVec 32) (ht : Vec F S1600x128 .f32) (w1 : Vec F S128x64 .f32)
    (b1 : Vec F S1x64 .f32) (w2 : Vec F S64x8 .f32) (bt : Vec F S1x1x1600 .i32)
    (d d' : Vec F S1x128 .f32) :
    stepD seg 1#32 1#32 ht w1 b1 w2 bt d = stepD seg 1#32 1#32 ht w1 b1 w2 bt d' := by
  have h1 : k0_cond1 1#32 = 1#1 := (cond1_iff _).mpr rfl
  have h2 : k0_cond2 1#32 = 1#1 := (cond2_iff _).mpr rfl
  simp only [stepD, h1, h2, cond3_one, and_false, and_self, if_true, if_false]

/-- Where none of the three stores is reached the block is what it was. -/
theorem stepO_keep (seg first last valid : BitVec 32) (ht : Vec F S1600x128 .f32) (w1 : Vec F S128x64 .f32)
    (b1 : Vec F S1x64 .f32) (w2 : Vec F S64x8 .f32) (bt : Vec F S1x1x1600 .i32) (o : Vec F S128x128 .f32)
    (d : Vec F S1x128 .f32) (h1 : ¬ (k0_cond1 valid = 1#1 ∧ k0_cond2 first = 1#1))
    (h2 : ¬ (k0_cond1 valid = 1#1 ∧ k0_cond3 first = 1#1)) (h3 : k0_cond4 last ≠ 1#1) :
    stepO seg first last valid ht w1 b1 w2 bt o d = o := by
  simp only [stepO, h1, h2, h3, if_false]

/-! ### What the two buffers hold between the points -/

/-- The call has 279 points. -/
theorem lt_279 {a : (pcfg0 (F := F)).Adm} (t : Fin (cfg0 a).N) : t.val < 279 := lt_of_lt_of_eq t.isLt N_0

/-- The coordinate of the grid's `n`-th point. -/
theorem col_coords (n : Fin grid0.N) : col (grid0.coords n) = ⟨n.val, lt_of_lt_of_eq n.isLt N_0⟩ := by
  have h := Pipeline.Grid.coords_val (G := grid0) n 0 (S := 1) (B := 279) (by decide) rfl
  apply Fin.ext
  show ((grid0.coords n) 0).val = n.val
  rw [h, Nat.div_one, Nat.mod_eq_of_lt (lt_of_lt_of_eq n.isLt N_0)]

/-- A kernel's array contents as the pass finds them, window by window. -/
abbrev Arrays (a : (pcfg0 (F := F)).Adm) (c : Dev nD) : Type :=
  (w : Fin 6) → Buf (Elt F) (((cfg0 a).win w).arr.view.loc (c.tc : Thread nD τ))

/-- The block an input window holds at a point. -/
def held {pf : pre0.Contents (Elt F)} (h : Sched (pf 0)) {c : Dev nD} (A : Arrays (adm h) c) (w : Fin 6) (n : ℕ) (hn : n < (cfg0 (adm h)).N) :
    ((cfg0 (adm h)).win w).block.Idx → Elt F ((cfg0 (adm h)).win w).elt :=
  Pipeline.heldIn (cfg0 (adm h)) A w n hn

/-- The block of the result and the row of denominators before each point. -/
def st {pf : pre0.Contents (Elt F)} (h : Sched (pf 0)) {c : Dev nD} (A : Arrays (adm h) c) : ℕ → Vec F S128x128 .f32 × Vec F S1x128 .f32
  | 0 => (fun _ => Scalar.ofBits .f32 0x00000000#32, fun _ => Scalar.ofBits .f32 0x00000000#32)
  | n + 1 =>
    if hn : n < (cfg0 (adm h)).N then
      let T : S5x279.Idx → BitVec 32 := pf 0
      let e : Fin 279 := ⟨n, lt_of_lt_of_eq hn N_0⟩
      let p := st h A n
      let d := stepD (T (cell 1 e)) (T (cell 2 e)) (T (cell 4 e)) (held h A 1 n hn) (held h A 2 n hn) (held h A 3 n hn)
        (held h A 4 n hn) (held h A 0 n hn) p.2
      (stepO (T (cell 1 e)) (T (cell 2 e)) (T (cell 3 e)) (T (cell 4 e)) (held h A 1 n hn) (held h A 2 n hn) (held h A 3 n hn)
        (held h A 4 n hn) (held h A 0 n hn) p.1 d, d)
    else st h A n

/-- The proof data of the pass. -/
def dats {pf : pre0.Contents (Elt F)} (h : Sched (pf 0)) (A : (c : Dev nD) → Arrays (adm h) c) (_ : Fin 1) (c : Dev nD) :
    Dat τ (Elt F) Unit ℕ (UR sig nD τ) ℕ (cfg0 (adm h)) c where
  A w := A c w
  after w t := match w with
    | ⟨0, _⟩ => held h (A c) 0 t.val t.isLt
    | ⟨1, _⟩ => held h (A c) 1 t.val t.isLt
    | ⟨2, _⟩ => held h (A c) 2 t.val t.isLt
    | ⟨3, _⟩ => held h (A c) 3 t.val t.isLt
    | ⟨4, _⟩ => held h (A c) 4 t.val t.isLt
    | ⟨5, _⟩ => (st h (A c) (t.val + 1)).1
  Φ t := iprop((∃ d, ⌜t.val ≠ 0 → d = (st h (A c) t.val).2⌝ ∗ owns (c : Thread nD τ) (Memref.whole cc0_scratch0) fullShare d)
    ∗ (∃ r, prngReg c r) ∗ (((c : Thread nD τ).loc main_v70) ↦{fullShare.right} (pf 0 : S5x279.Idx → BitVec 32)))
  q _ := fullShare
  owed _ := 0

section Run

variable {pf : pre0.Contents (Elt F)} (h : Sched (pf 0)) (A : (c : Dev nD) → Arrays (adm h) c) (c : Dev nD)

/-- A word of the schedule at a point. -/
abbrev word (pf : pre0.Contents (Elt F)) (k : Fin 5) (n : ℕ) (hn : n < 279) : BitVec 32 :=
  (pf 0 : S5x279.Idx → BitVec 32) (cell k ⟨n, hn⟩)

/-- The denominators after point `n`. -/
theorem st_succ_snd (n : ℕ) (hn : n < (cfg0 (adm h)).N) :
    (st h (A c) (n + 1)).2 = stepD (word pf 1 n (lt_of_lt_of_eq hn N_0)) (word pf 2 n (lt_of_lt_of_eq hn N_0))
      (word pf 4 n (lt_of_lt_of_eq hn N_0)) (held h (A c) 1 n hn) (held h (A c) 2 n hn) (held h (A c) 3 n hn)
        (held h (A c) 4 n hn) (held h (A c) 0 n hn) (st h (A c) n).2 := by
  rw [st, dif_pos hn]

/-- The block after point `n`. -/
theorem st_succ_fst (n : ℕ) (hn : n < (cfg0 (adm h)).N) :
    (st h (A c) (n + 1)).1 = stepO (word pf 1 n (lt_of_lt_of_eq hn N_0)) (word pf 2 n (lt_of_lt_of_eq hn N_0))
      (word pf 3 n (lt_of_lt_of_eq hn N_0)) (word pf 4 n (lt_of_lt_of_eq hn N_0)) (held h (A c) 1 n hn) (held h (A c) 2 n hn)
        (held h (A c) 3 n hn) (held h (A c) 4 n hn) (held h (A c) 0 n hn) (st h (A c) n).1 (st h (A c) (n + 1)).2 := by
  rw [st_succ_snd, st, dif_pos hn]

/-- Where the body stores nothing into the block, the block is what it was. -/
theorem stepO_idle (t : Fin (cfg0 (adm h)).N) (hi : (cfg0 (adm h)).idle 5 ((cfg0 (adm h)).grid.coords t) = true)
    (ht : Vec F S1600x128 .f32) (w1 : Vec F S128x64 .f32) (b1 : Vec F S1x64 .f32) (w2 : Vec F S64x8 .f32)
    (bt : Vec F S1x1x1600 .i32) (o : Vec F S128x128 .f32) (d : Vec F S1x128 .f32) :
    stepO (word pf 1 t.val (lt_279 t)) (word pf 2 t.val (lt_279 t)) (word pf 3 t.val (lt_279 t)) (word pf 4 t.val (lt_279 t))
      ht w1 b1 w2 bt o d = o := by
  have hi' : idle0 pf 5 (grid0.coords t) = true := hi
  simp only [idle0] at hi'
  rw [atD_word pf (k0_off5_inb _) (off_word _ (k0_off5_eq _)), atD_word pf (k0_off3_inb _) (off_word _ (k0_off3_eq _)),
    atD_word pf (k0_off4_inb _) (off_word _ (k0_off4_eq _)), col_coords] at hi'
  simp only [Bool.and_eq_true, Bool.not_eq_true', Bool.and_eq_false_iff, beq_eq_false_iff_ne] at hi'
  obtain ⟨⟨h1, h2⟩, h3⟩ := hi'
  exact stepO_keep _ _ _ _ _ _ _ _ _ _ _ (by tauto) (by tauto) h3

/-- A valid first point is no idle point. -/
theorem not_idle (t : Fin (cfg0 (adm h)).N) (hv : word pf 4 t.val (lt_279 t) = 1#32) (hf : word pf 2 t.val (lt_279 t) = 1#32) :
    (cfg0 (adm h)).idle 5 ((cfg0 (adm h)).grid.coords t) = false := by
  show idle0 pf 5 (grid0.coords t) = false
  simp only [idle0]
  rw [atD_word pf (k0_off5_inb _) (off_word _ (k0_off5_eq _)), atD_word pf (k0_off3_inb _) (off_word _ (k0_off3_eq _)),
    atD_word pf (k0_off4_inb _) (off_word _ (k0_off4_eq _)), col_coords]
  unfold word at hv hf
  rw [hv, hf, (cond1_iff 1#32).mpr rfl, (cond2_iff 1#32).mpr rfl]
  rfl

/-- Where the block of the result is written back, the next point is valid and first. -/
theorem turn_of_flush (n : ℕ) (hn : n + 1 < (cfg0 (adm h)).N)
    (hf : ((cfg0 (adm h)).win 5).flush ⟨n, Nat.lt_of_succ_lt hn⟩ = true) :
    word pf 4 (n + 1) (lt_of_lt_of_eq hn N_0) = 1#32 ∧ word pf 2 (n + 1) (lt_of_lt_of_eq hn N_0) = 1#32 := by
  unfold Pipeline.Window.flush at hf
  simp only [Bool.and_eq_true, Bool.or_eq_true, decide_eq_true_eq] at hf
  rcases hf.2 with e | ⟨h', hne⟩
  · exact absurd e (Nat.ne_of_lt hn)
  · refine h.turn n (lt_of_lt_of_eq hn N_0) fun e => hne ?_
    show cc0_transform_5 k0_off2_inb numel1_S1x1 pf (grid0.coords ⟨n + 1, h'⟩) = cc0_transform_5 k0_off2_inb numel1_S1x1 pf (grid0.coords ⟨n, _⟩)
    rw [seg_index, seg_index, col_coords, col_coords]
    exact congrArg (fun w : BitVec 32 => ![w.toNat, 0]) e

/-- Where the body finds nothing it stored in the block's buffer, the point is valid and first. -/
theorem fresh_first : ∀ (n : ℕ) (hn : n < (cfg0 (adm h)).N), (cfg0 (adm h)).fresh 5 n = true →
    word pf 4 n (lt_of_lt_of_eq hn N_0) = 1#32 ∧ word pf 2 n (lt_of_lt_of_eq hn N_0) = 1#32
  | 0, _, _ => h.start
  | n + 1, hn, hf => by
    have hn' : n < (cfg0 (adm h)).N := Nat.lt_of_succ_lt hn
    rw [Pipeline.Cfg.fresh_succ (cfg0 (adm h)) 5 n hn', Bool.or_eq_true, Bool.and_eq_true] at hf
    rcases hf with hf | ⟨hi, hf⟩
    · exact turn_of_flush h n hn hf
    · obtain ⟨hv, h1⟩ := fresh_first n hn' hf
      rw [not_idle h ⟨n, hn'⟩ hv h1] at hi
      exact absurd hi Bool.false_ne_true

/-- After a point window 0 holds the block it held. -/
theorem after_in0 (t : Fin (cfg0 (adm h)).N) : (dats h A 0 c).after 0 t = held h (A c) 0 t.val t.isLt := by dsimp only [dats]; rfl
/-- After a point window 1 holds the block it held. -/
theorem after_in1 (t : Fin (cfg0 (adm h)).N) : (dats h A 0 c).after 1 t = held h (A c) 1 t.val t.isLt := by dsimp only [dats]; rfl
/-- After a point window 2 holds the block it held. -/
theorem after_in2 (t : Fin (cfg0 (adm h)).N) : (dats h A 0 c).after 2 t = held h (A c) 2 t.val t.isLt := by dsimp only [dats]; rfl
/-- After a point window 3 holds the block it held. -/
theorem after_in3 (t : Fin (cfg0 (adm h)).N) : (dats h A 0 c).after 3 t = held h (A c) 3 t.val t.isLt := by dsimp only [dats]; rfl
/-- After a point window 4 holds the block it held. -/
theorem after_in4 (t : Fin (cfg0 (adm h)).N) : (dats h A 0 c).after 4 t = held h (A c) 4 t.val t.isLt := by dsimp only [dats]; rfl
/-- After a point the output window holds the next state's block. -/
theorem after_out (t : Fin (cfg0 (adm h)).N) : (dats h A 0 c).after 5 t = (st h (A c) (t.val + 1)).1 := by dsimp only [dats]; rfl

/-- Before a point window 0 holds its block. -/
theorem before_in0 (t : Fin (cfg0 (adm h)).N) (d) : (dats h A 0 c).before 0 t d = held h (A c) 0 t.val t.isLt :=
  Dat.before_eq_heldIn (dats h A 0 c) 0 rfl (fun _ => rfl) (fun _ _ => rfl) (fun t => after_in0 h A c t) t d
/-- Before a point window 1 holds its block. -/
theorem before_in1 (t : Fin (cfg0 (adm h)).N) (d) : (dats h A 0 c).before 1 t d = held h (A c) 1 t.val t.isLt :=
  Dat.before_eq_heldIn (dats h A 0 c) 1 rfl (fun _ => rfl) (fun _ _ => rfl) (fun t => after_in1 h A c t) t d
/-- Before a point window 2 holds its block. -/
theorem before_in2 (t : Fin (cfg0 (adm h)).N) (d) : (dats h A 0 c).before 2 t d = held h (A c) 2 t.val t.isLt :=
  Dat.before_eq_heldIn (dats h A 0 c) 2 rfl (fun _ => rfl) (fun _ _ => rfl) (fun t => after_in2 h A c t) t d
/-- Before a point window 3 holds its block. -/
theorem before_in3 (t : Fin (cfg0 (adm h)).N) (d) : (dats h A 0 c).before 3 t d = held h (A c) 3 t.val t.isLt :=
  Dat.before_eq_heldIn (dats h A 0 c) 3 rfl (fun _ => rfl) (fun _ _ => rfl) (fun t => after_in3 h A c t) t d
/-- Before a point window 4 holds its block. -/
theorem before_in4 (t : Fin (cfg0 (adm h)).N) (d) : (dats h A 0 c).before 4 t d = held h (A c) 4 t.val t.isLt :=
  Dat.before_eq_heldIn (dats h A 0 c) 4 rfl (fun _ => rfl) (fun _ _ => rfl) (fun t => after_in4 h A c t) t d

/-- What the body finds in the block's buffer where it stored nothing there, -/
theorem before_out_traj (t : Fin (cfg0 (adm h)).N) (d) :
    (dats h A 0 c).before 5 t d = if (cfg0 (adm h)).fresh 5 t.val then d else (dats h A 0 c).after 5 ⟨t.val - 1, by omega⟩ := by
  refine Dat.before_out_traj (dats h A 0 c) 5 rfl (fun _ _ => rfl) (fun t ht hi _ => ?_) t.val t rfl d
  rw [after_out, after_out, st_succ_fst h A c t.val t.isLt, stepO_idle h t hi]
  rw [show (⟨t.val - 1, by omega⟩ : Fin (cfg0 (adm h)).N).val + 1 = t.val from by simp only; omega]

/-- anything, and elsewhere what the point before left. -/
theorem before_out (t : Fin (cfg0 (adm h)).N) (hf : ¬ (cfg0 (adm h)).fresh 5 t.val = true) (d) :
    (dats h A 0 c).before 5 t d = (st h (A c) t.val).1 := by
  have ht : t.val ≠ 0 := fun e => hf (by rw [e]; rfl)
  rw [before_out_traj, if_neg hf, after_out]
  rw [show (⟨t.val - 1, by omega⟩ : Fin (cfg0 (adm h)).N).val + 1 = t.val from by simp only; omega]

/-- The body at a point takes the block as it finds it to the block as the point leaves it, -/
theorem step_out (t : Fin (cfg0 (adm h)).N) (dO d) (hd : t.val ≠ 0 → d = (st h (A c) t.val).2) :
    stepD (word pf 1 t.val (lt_279 t)) (word pf 2 t.val (lt_279 t)) (word pf 4 t.val (lt_279 t)) (held h (A c) 1 t.val t.isLt)
        (held h (A c) 2 t.val t.isLt) (held h (A c) 3 t.val t.isLt) (held h (A c) 4 t.val t.isLt) (held h (A c) 0 t.val t.isLt) d
      = (st h (A c) (t.val + 1)).2
    ∧ stepO (word pf 1 t.val (lt_279 t)) (word pf 2 t.val (lt_279 t)) (word pf 3 t.val (lt_279 t)) (word pf 4 t.val (lt_279 t))
        (held h (A c) 1 t.val t.isLt) (held h (A c) 2 t.val t.isLt) (held h (A c) 3 t.val t.isLt) (held h (A c) 4 t.val t.isLt)
        (held h (A c) 0 t.val t.isLt) ((dats h A 0 c).before 5 t dO) (st h (A c) (t.val + 1)).2
      = (st h (A c) (t.val + 1)).1 := by
  rw [st_succ_fst h A c t.val t.isLt, st_succ_snd h A c t.val t.isLt]
  by_cases hf : (cfg0 (adm h)).fresh 5 t.val = true
  · obtain ⟨hv, h1⟩ := fresh_first h t.val t.isLt hf
    rw [hv, h1]
    exact ⟨stepD_first _ _ _ _ _ _ _ _, stepO_first _ _ _ _ _ _ _ _ _ _⟩
  · have ht : t.val ≠ 0 := fun e => hf (by rw [e]; rfl)
    rw [before_out h A c t hf, hd ht]
    exact ⟨rfl, rfl⟩

/-- The buffer a window stages a point's block in. -/
abbrev stg (w : Fin 6) (t : Fin (cfg0 (adm h)).N) := ((cfg0 (adm h)).win w).stage ((cfg0 (adm h)).slots t w)

/-- What the body is called with at point `t`, the windows one by one, -/
def bodyPre (t : Fin (cfg0 (adm h)).N) : sProp 𝕄 :=
  iprop((dats h A 0 c).Φ t.castSucc ∗ (dats h A 0 c).owesAt () t.castSucc
    ∗ (∃ d, owns (c : Thread nD τ) (stg h 0 t) fullShare ((dats h A 0 c).before 0 t d))
    ∗ (∃ d, owns (c : Thread nD τ) (stg h 1 t) fullShare ((dats h A 0 c).before 1 t d))
    ∗ (∃ d, owns (c : Thread nD τ) (stg h 2 t) fullShare ((dats h A 0 c).before 2 t d))
    ∗ (∃ d, owns (c : Thread nD τ) (stg h 3 t) fullShare ((dats h A 0 c).before 3 t d))
    ∗ (∃ d, owns (c : Thread nD τ) (stg h 4 t) fullShare ((dats h A 0 c).before 4 t d))
    ∗ (∃ d, owns (c : Thread nD τ) (stg h 5 t) fullShare ((dats h A 0 c).before 5 t d)))

/-- and what it returns. -/
def bodyPost (t : Fin (cfg0 (adm h)).N) : sProp 𝕄 :=
  iprop((dats h A 0 c).Φ t.succ ∗ (dats h A 0 c).owesAt () t.succ
    ∗ owns (c : Thread nD τ) (stg h 0 t) fullShare ((dats h A 0 c).after 0 t)
    ∗ owns (c : Thread nD τ) (stg h 1 t) fullShare ((dats h A 0 c).after 1 t)
    ∗ owns (c : Thread nD τ) (stg h 2 t) fullShare ((dats h A 0 c).after 2 t)
    ∗ owns (c : Thread nD τ) (stg h 3 t) fullShare ((dats h A 0 c).after 3 t)
    ∗ owns (c : Thread nD τ) (stg h 4 t) fullShare ((dats h A 0 c).after 4 t)
    ∗ owns (c : Thread nD τ) (stg h 5 t) fullShare ((dats h A 0 c).after 5 t))

/-- The body called at a point. -/
abbrev bodyAt (t : Fin (cfg0 (adm h)).N) : Prog (TpuEff nD τ sig (Elt F) Λ₀ .tc) PUnit :=
  let s := (cfg0 (adm h)).slots t
  cc0__pool_body (grid0.coords t) (Memref.whole main_v70) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (Memref.whole cc0_scratch0) (Memref.isWhole_whole _)

set_option backward.isDefEq.respectTransparency.types false in
/-- The body at any point leaves the block and the denominators as the recursion has them. -/
theorem sound_body (t : Fin (cfg0 (adm h)).N) :
    bodyPre h A c t ⊢ wp frame (wpE (defs₀ (F := F)) Variants.none c none) Set.univ (bodyAt h t) (fun _ => bodyPost h A c t) := by
  unfold bodyPre bodyPost bodyAt
  simp only [before_in0, before_in1, before_in2, before_in3, before_in4, after_in0, after_in1, after_in2, after_in3, after_in4]
  rw [show (dats h A 0 c).owesAt () t.succ = (dats h A 0 c).owesAt () t.castSucc from rfl, after_out,
    show (dats h A 0 c).Φ t.castSucc = iprop((∃ d, ⌜t.val ≠ 0 → d = (st h (A c) t.val).2⌝ ∗ owns (c : Thread nD τ) (Memref.whole cc0_scratch0) fullShare d)
      ∗ (∃ r, prngReg c r) ∗ (((c : Thread nD τ).loc main_v70) ↦{fullShare.right} (pf 0 : S5x279.Idx → BitVec 32))) from by dsimp only [dats]; rfl,
    show (dats h A 0 c).Φ t.succ = iprop((∃ d, ⌜t.val + 1 ≠ 0 → d = (st h (A c) (t.val + 1)).2⌝ ∗ owns (c : Thread nD τ) (Memref.whole cc0_scratch0) fullShare d)
      ∗ (∃ r, prngReg c r) ∗ (((c : Thread nD τ).loc main_v70) ↦{fullShare.right} (pf 0 : S5x279.Idx → BitVec 32))) from by dsimp only [dats]; rfl]
  iintro ⟨⟨⟨%d, %hd, Hd⟩, Hp, HT⟩, Ho, ⟨%d0, H0⟩, ⟨%d1, H1⟩, ⟨%d2, H2⟩, ⟨%d3, H3⟩, ⟨%d4, H4⟩, ⟨%d5, H5⟩⟩
  obtain ⟨eD, eO⟩ := step_out h A c t d5 d hd
  iapply (body_triple c Set.univ (grid0.coords t) _ _ _ _ _ _ _ _ _ _ _ _ _ _ (pf 0) (held h (A c) 0 t.val t.isLt)
    (held h (A c) 1 t.val t.isLt) (held h (A c) 2 t.val t.isLt) (held h (A c) 3 t.val t.isLt) (held h (A c) 4 t.val t.isLt) _ d _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [Hd]; · iexact Hd
  rw [col_coords, eD, eO]
  iintro ⟨HT, H0, H1, H2, H3, H4, H5, Hd⟩
  isplitl [HT Hp Hd]
  · isplitl [Hd]
    · iexists _; isplitr
      swap; · iexact Hd
      ipureintro; exact fun _ => rfl
    isplitl [Hp]; · iexact Hp
    iexact HT
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body called there. -/
theorem defs₀_row (t : Fin (cfg0 (adm h)).N) :
    defs₀ (F := F) .tc (cfg0 (adm h)).body ((cfg0 (adm h)).bodyArgs t ((cfg0 (adm h)).slots t)) = bodyAt h t := by
  unfold defs₀; rw [Defs.onTc_tc]

/-- The block as the point leaves it is what the obligation asks for, whether the point is idle or not. -/
theorem out_left (t : Fin (cfg0 (adm h)).N) :
    (owns (c : Thread nD τ) (stg h 5 t) fullShare ((dats h A 0 c).after 5 t) : sProp 𝕄)
      ⊢ match (cfg0 (adm h)).idle 5 ((cfg0 (adm h)).grid.coords t) with
        | true =>
          match ((cfg0 (adm h)).win 5).flush t with
          | false => iprop(∃ d, owns (c : Thread nD τ) (stg h 5 t) fullShare ((dats h A 0 c).before 5 t d))
          | true => owns (c : Thread nD τ) (stg h 5 t) fullShare ((dats h A 0 c).after 5 t)
        | false => owns (c : Thread nD τ) (stg h 5 t) fullShare ((dats h A 0 c).after 5 t) := by
  cases hi : (cfg0 (adm h)).idle 5 ((cfg0 (adm h)).grid.coords t)
  · exact .rfl
  · cases hfl : ((cfg0 (adm h)).win 5).flush t
    · have e : (dats h A 0 c).before 5 t ((dats h A 0 c).after 5 t) = (dats h A 0 c).after 5 t := by
        by_cases hf : (cfg0 (adm h)).fresh 5 t.val = true
        · rw [before_out_traj, if_pos hf]
        · rw [before_out h A c t hf, after_out, st_succ_fst h A c t.val t.isLt, stepO_idle h t hi]
      iintro H
      iexists ((dats h A 0 c).after 5 t)
      rw [e]
      iexact H
    · exact .rfl

set_option backward.isDefEq.respectTransparency.types false in
/-- The obligation the pipeline asks of the body, at every point. -/
theorem body_obligation : BodyObligation (dats h A 0 c) (defs₀ (F := F)) Variants.none () Set.univ := fun t => by
  rw [bigSep_W0, bigSep_W0, defs₀_row]
  refine triple_restated (sound_body h A c t) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  ihave H5 := (out_left h A c t) $$ H5
  iexact H5

end Run

end Cert.PoolBody

end
-- ==== Proof.Held.lean ====
/-
  What the input windows hold at a point, entry by entry: a tile of the rows and of their segments,
  picked by the schedule, and the three arrays that are handed over whole.
-/
module

public import proofs.«01_k».proof.Proof.Pass
public import Idealize.ShloMosaic.Lib.Pipeline.Value
public import Idealize.ShloMosaic.Lib.Routing.Ops

@[expose] public section

noncomputable section

namespace Cert.PoolBody

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]
variable {pf : pre0.Contents (Elt F)} (h : Sched (pf 0)) (A : (c : Dev nD) → Arrays (adm h) c) (c : Dev nD)

/-- An input window holds, at every point, the block a fetch at that point would bring. -/
theorem held_fetched (w : Fin 6) (hw : ((cfg0 (adm h)).win w).isOut = false)
    (hc : ∀ i i', ((cfg0 (adm h)).win w).clip i = ((cfg0 (adm h)).win w).clip i') : ∀ (n : ℕ) (hn : n < (cfg0 (adm h)).N),
    held h (A c) w n hn = (dats h A 0 c).fetched w ⟨n, hn⟩ (fun _ => Classical.arbitrary _)
  | 0, _ => rfl
  | n + 1, hn => by
    by_cases hf : ((cfg0 (adm h)).win w).fetch ⟨n + 1, hn⟩ = true
    · exact Pipeline.heldIn_of_fetch (A c) w ⟨n + 1, hn⟩ hf
    · have e : held h (A c) w (n + 1) hn = held h (A c) w n (Nat.lt_of_succ_lt hn) :=
        Pipeline.heldIn_of_not_fetch (cfg := cfg0 (adm h)) (c := c) (A c) w n hn (Bool.eq_false_iff.mpr hf)
      rw [e, held_fetched w hw hc n (Nat.lt_of_succ_lt hn)]
      refine Dat.fetched_congr (dats h A 0 c) w ?_ (hc _ _) _
      by_contra hne
      refine hf ?_
      unfold Pipeline.Window.fetch
      rw [hw, Bool.not_false, Bool.true_and, Bool.or_eq_true, decide_eq_true_eq, decide_eq_true_eq]
      exact .inr ⟨Nat.succ_pos n, fun e => hne e.symm⟩

/-- The segments of the tile the schedule names. -/
theorem held_ids (n : ℕ) (hn : n < (cfg0 (adm h)).N) (t : Fin 200) (ht : (word pf 0 n (lt_of_lt_of_eq hn N_0)).toNat = t.val) (r : Fin 1600) :
    (held h (A c) 0 n hn : Vec F S1x1x1600 .i32) (ix3 0 0 r) = (A c 0 : Vec F S200x1x1600 .i32) (ix3 t 0 r) := by
  have hi : ((cfg0 (adm h)).win 0).index ⟨n, hn⟩ = ![t.val, 0, 0] := by
    show cc0_transform_0 k0_off1_inb numel1_S1x1 pf (grid0.coords ⟨n, hn⟩) = _
    rw [tile_index, col_coords, ← ht]
  rw [held_fetched h A c 0 rfl (fun _ _ => rfl)]
  refine (congrFun (Dat.cut_fetched (dats h A 0 c) 0 ⟨n, hn⟩ _) (ix3 0 0 r)).trans ?_
  refine congrArg (A c 0 : Vec F S200x1x1600 .i32) (funext fun a => Fin.ext ?_)
  refine (Pipeline.Window.rect_emb_val ((cfg0 (adm h)).win 0) ⟨n, hn⟩ (ix3 0 0 r) a rfl).trans ?_
  rw [hi]
  match a with
  | ⟨0, _⟩ => show t.val * 1 + 0 = t.val; omega
  | ⟨1, _⟩ => rfl
  | ⟨2, _⟩ => show 0 * 1600 + r.val = r.val; omega

/-- The rows of the tile the schedule names. -/
theorem held_rows (n : ℕ) (hn : n < (cfg0 (adm h)).N) (t : Fin 200) (ht : (word pf 0 n (lt_of_lt_of_eq hn N_0)).toNat = t.val)
    (r : Fin 1600) (j : Fin 128) (i : Fin 320000) (hri : i.val = 1600 * t.val + r.val) :
    (held h (A c) 1 n hn : Vec F S1600x128 .f32) (ix2 r j) = (A c 1 : Vec F S320000x128 .f32) (ix2 i j) := by
  have hi : ((cfg0 (adm h)).win 1).index ⟨n, hn⟩ = ![t.val, 0] := by
    show cc0_transform_1 k0_off1_inb numel1_S1x1 pf (grid0.coords ⟨n, hn⟩) = _
    rw [tile_index1, col_coords, ← ht]
  rw [held_fetched h A c 1 rfl (fun _ _ => rfl)]
  refine (congrFun (Dat.cut_fetched (dats h A 0 c) 1 ⟨n, hn⟩ _) (ix2 r j)).trans ?_
  refine congrArg (A c 1 : Vec F S320000x128 .f32) (funext fun a => Fin.ext ?_)
  refine (Pipeline.Window.rect_emb_val ((cfg0 (adm h)).win 1) ⟨n, hn⟩ (ix2 r j) a rfl).trans ?_
  rw [hi]
  match a with
  | ⟨0, _⟩ => show t.val * 1600 + r.val = i.val; omega
  | ⟨1, _⟩ => show 0 * 128 + j.val = j.val; omega

/-- The first layer's weights. -/
theorem held_w1 (n : ℕ) (hn : n < (cfg0 (adm h)).N) (y : S128x64.Idx) :
    (held h (A c) 2 n hn : Vec F S128x64 .f32) y = (A c 2 : Vec F S128x64 .f32) y := by
  rw [held_fetched h A c 2 rfl (fun _ _ => rfl)]
  refine (congrFun (Dat.cut_fetched (dats h A 0 c) 2 ⟨n, hn⟩ _) y).trans ?_
  refine congrArg (A c 2 : Vec F S128x64 .f32) (funext fun a => Fin.ext ?_)
  exact Pipeline.Window.rect_emb_val_of_index_zero ((cfg0 (adm h)).win 2) ⟨n, hn⟩ a (by fin_cases a <;> rfl) y

/-- The first layer's bias. -/
theorem held_b1 (n : ℕ) (hn : n < (cfg0 (adm h)).N) (y : S1x64.Idx) :
    (held h (A c) 3 n hn : Vec F S1x64 .f32) y = (A c 3 : Vec F S1x64 .f32) y := by
  rw [held_fetched h A c 3 rfl (fun _ _ => rfl)]
  refine (congrFun (Dat.cut_fetched (dats h A 0 c) 3 ⟨n, hn⟩ _) y).trans ?_
  refine congrArg (A c 3 : Vec F S1x64 .f32) (funext fun a => Fin.ext ?_)
  exact Pipeline.Window.rect_emb_val_of_index_zero ((cfg0 (adm h)).win 3) ⟨n, hn⟩ a (by fin_cases a <;> rfl) y

/-- The last layer's weights. -/
theorem held_w2 (n : ℕ) (hn : n < (cfg0 (adm h)).N) (y : S64x8.Idx) :
    (held h (A c) 4 n hn : Vec F S64x8 .f32) y = (A c 4 : Vec F S64x8 .f32) y := by
  rw [held_fetched h A c 4 rfl (fun _ _ => rfl)]
  refine (congrFun (Dat.cut_fetched (dats h A 0 c) 4 ⟨n, hn⟩ _) y).trans ?_
  refine congrArg (A c 4 : Vec F S64x8 .f32) (funext fun a => Fin.ext ?_)
  exact Pipeline.Window.rect_emb_val_of_index_zero ((cfg0 (adm h)).win 4) ⟨n, hn⟩ a (by fin_cases a <;> rfl) y

/-- The block of the result at a point is the one the schedule names. -/
theorem out_index (t : Fin (cfg0 (adm h)).N) :
    ((cfg0 (adm h)).win 5).index t = ![(word pf 1 t.val (lt_of_lt_of_eq t.isLt N_0)).toNat, 0] := by
  show cc0_transform_5 k0_off2_inb numel1_S1x1 pf (grid0.coords t) = _
  rw [seg_index, col_coords]

end Cert.PoolBody

end
-- ==== Proof.Frame.lean ====
/-
  The run of the whole program: the host lines before the call, the pass, the host line after it.
  Whenever the table those lines leave is a schedule the pass accepts, every run ends, with the
  arguments and the counters as they were and the result array as the pass leaves it.
-/
module

public import proofs.«01_k».proof.Proof.Pass
public import Idealize.ShloMosaic.Lib.Claim
public import Idealize.ShloMosaic.Lib.StableHlo.RunRead

@[expose] public section

noncomputable section

namespace Cert.PoolBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The host lines before the call. -/
abbrev lines : List (List (HloOp τ sig (Elt F))) :=
  [hostOps0, hostOps0_1, hostOps0_2, hostOps0_3, hostOps0_4, hostOps0_5, hostOps0_6, hostOps0_7, hostOps0_8, hostOps0_9, hostOps0_10]

variable (m : (ℓ : Loc nD τ sig) → Buf (Elt F) ℓ) (g : Dev nD → PrngReg)

/-- What every buffer holds when the call starts. -/
def entry (c : Dev nD) : Valuation τ sig (Elt F) := StableHlo.after (lines (F := F)).flatten (fun b => m (c, b))

/-- The same, line after line. -/
theorem entry_lines (c : Dev nD) : entry m c =
    StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3
        (StableHlo.after hostOps0_2 (StableHlo.after hostOps0_1 (StableHlo.after hostOps0 (fun b => m (c, b)))))))))))) := by
  unfold entry lines
  simp only [List.flatten_cons, List.flatten_nil, List.append_nil, StableHlo.after_append]

/-- The table the call reads. -/
def tab : pre0.Contents (Elt F) := fun j => entry m (0 : Dev nD) (Proc.devRef .tc (pre0.ref j))

/-- Every device enters the call with the same schedule: there is one device. -/
theorem entry_tab (c : Dev nD) (j : Fin 1) : entry m c (Proc.devRef .tc (pre0.ref j)) = tab m j := by
  obtain rfl : c = 0 := Subsingleton.elim _ _; rfl

/-! ### The lines before the call write no argument -/

set_option maxRecDepth 100000 in
set_option maxHeartbeats 4000000 in
/-- The lines before the call leave the six arguments as they were. -/
theorem entry_args (c : Dev nD) :
    entry m c (Proc.devRef .tc main_arg0) = m ((c : Thread nD τ).loc main_arg0)
    ∧ entry m c (Proc.devRef .tc main_arg1) = m ((c : Thread nD τ).loc main_arg1)
    ∧ entry m c (Proc.devRef .tc main_arg2) = m ((c : Thread nD τ).loc main_arg2)
    ∧ entry m c (Proc.devRef .tc main_arg3) = m ((c : Thread nD τ).loc main_arg3)
    ∧ entry m c (Proc.devRef .tc main_arg4) = m ((c : Thread nD τ).loc main_arg4)
    ∧ entry m c (Proc.devRef .tc main_arg5) = m ((c : Thread nD τ).loc main_arg5) := by
  rw [entry_lines]
  refine ⟨?_, ?_, ?_, ?_, ?_, ?_⟩ <;> after_reads_simp <;> rfl

/-! ### The launch -/

variable (h : Sched (tab m 0))

/-- What the arrays hold when the call starts. -/
def arrs (c : Dev nD) : Arrays (adm h) c := fun w => entry m c (Proc.devRef .tc (Pipeline.arrRef spec0 w))

/-- The arrays of the launch are what the call enters with. -/
theorem A_eq (c : Dev nD) (w : Fin 6) : (dats h (arrs m h) 0 c).A w = entry m c (Proc.devRef .tc (Pipeline.arrRef spec0 w)) := by
  dsimp only [dats]; rfl

/-- The line after the call touches the arrays and the buffers that bypass the call only, -/
theorem tail_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  obtain rfl := List.mem_singleton.mp hop
  intro j
  fin_cases j
  simp only [StableHlo.unary_bufs, Finset.mem_insert, Finset.mem_singleton, not_or]
  and_intros <;> exact StableHlo.devRef_ne_of_ne (by decide)

/-- and writes no array. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  fin_cases w <;> simp only [StableHlo.unary_writes, Finset.mem_singleton] <;> exact StableHlo.devRef_ne_of_ne (by decide)

/-- The state before the first point, from the buffers the launch hands over. -/
theorem hin (c : Dev nD) : iprop(Pipeline.ΦA spec0 c ∗ Pipeline.ΦT pre0 (tab m) c) ⊢ ((dats h (arrs m h) 0 c).Φ 0 : sProp 𝕄) := by
  rw [show (dats h (arrs m h) 0 c).Φ 0 = iprop((∃ d, ⌜(0 : ℕ) ≠ 0 → d = (st h (arrs m h c) 0).2⌝ ∗ owns (c : Thread nD τ) (Memref.whole cc0_scratch0) fullShare d)
      ∗ (∃ r, prngReg c r) ∗ (((c : Thread nD τ).loc main_v70) ↦{fullShare.right} (tab m 0 : S5x279.Idx → BitVec 32))) from by dsimp only [dats]; rfl]
  unfold Pipeline.ΦA Pipeline.ΦT Pipeline.prefHeld
  rw [scopedRest0_eq, show (Finset.univ : Finset (Fin pre0.K)) = {(0 : Fin 1)} from by decide, bigSep_singleton]
  iintro ⟨⟨⟨%f, Hs⟩, Hp⟩, HT⟩
  isplitl [Hs]
  · iexists f; isplitr
    · ipureintro; exact fun e => absurd rfl e
    rw [owns_whole]
    iexact Hs
  isplitl [Hp]; · iexact Hp
  iexact HT

/-- The state after the last point gives the buffers back. -/
theorem hout (c : Dev nD) : ((dats h (arrs m h) 0 c).Φ (Fin.last (cfg0 (adm h)).N) : sProp 𝕄) ⊢ Pipeline.ΦA spec0 c := by
  rw [show (dats h (arrs m h) 0 c).Φ (Fin.last (cfg0 (adm h)).N) = iprop((∃ d, ⌜(cfg0 (adm h)).N ≠ 0 → d = (st h (arrs m h c) (cfg0 (adm h)).N).2⌝ ∗ owns (c : Thread nD τ) (Memref.whole cc0_scratch0) fullShare d)
      ∗ (∃ r, prngReg c r) ∗ (((c : Thread nD τ).loc main_v70) ↦{fullShare.right} (tab m 0 : S5x279.Idx → BitVec 32))) from by dsimp only [dats]; rfl]
  unfold Pipeline.ΦA
  rw [scopedRest0_eq]
  simp only [owns_whole]
  iintro ⟨⟨%d, -, Hs⟩, Hp, -⟩
  isplitl [Hs]
  · iexists d
    iexact Hs
  iexact Hp

/-- The contents the call is run at. -/
abbrev pins : (p : Fin 1) → ((pcfgs (F := F)) p).Adm := fun _ => adm h

set_option backward.isDefEq.respectTransparency.types false in
/-- The launch: every run ends, the arrays as the pass leaves them, every other buffer as the lines leave it, the counters at zero. -/
theorem run_pool : θ_run defs (onTc (τ := τ) (main (F := F))) ⟨m, fun _ => 0, g⟩ (fun r =>
    Pipeline.FramePost (Pipeline.pin pcfgs (pins m h)) (dats h (arrs m h)) 0
      (Pipeline.afterTail pcfgs (pins m h) (dats h (arrs m h)) 0 (entry m) [hostOps1]) r ∧ r.2.sem = fun _ => 0) :=
  Pipeline.θ_run_frameP_around_track (Q' := _) pcfgs (pins m h) (dats h (arrs m h)) (0 : Fin 1) launch0 defs₀ Variants.none m g main
    (hbody := fun c => (body_obligation h (arrs m h) c).loose) (hshare := fun c => (dats h (arrs m h) 0 c).share_full fun _ => rfl)
    (howed := fun _ _ => rfl) (V₀ := entry m) (opss := [hostOps1]) (hsub := tail_sub)
    (hfresh := fun ops hops op hop => by
      obtain rfl := List.mem_singleton.mp hops
      obtain rfl := List.mem_singleton.mp hop
      rfl) (hkeep := tail_keeps)
    (hmain := Pipeline.hmainP_around pcfgs 0 defs₀ Variants.none m main lines [hostOps1]
      (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
      (by simp only [List.Forall]; repeat' apply And.intro
          all_goals rfl) main_chain)
    (hA := A_eq m h) (hpf := entry_tab m) (hin := hin m h) (hout := hout m h) (hQ' := fun _ e => e)

/-- An argument that is no array of the call, after the line that follows it. -/
theorem tail_rest (c : Dev nD) (b : Ref sig .tc) (hb : ∀ w, Pipeline.arrRef spec0 w ≠ b) (hv : b ≠ main_v75) :
    Pipeline.afterTail pcfgs (pins m h) (dats h (arrs m h)) 0 (entry m) [hostOps1] c b = entry m c (Proc.devRef .tc b) := by
  unfold Pipeline.afterTail
  rw [StableHlo.after_of_forall_not_mem]
  · exact Pipeline.withArrays_of_ne spec0 c (entry m c) _ b hb
  · intro op hop
    obtain rfl := List.mem_singleton.mp hop
    simp only [StableHlo.unary_writes, Finset.mem_singleton]
    exact StableHlo.devRef_ne_of_ne hv

/-- The arguments at the end of a run are what they were. -/
theorem args_kept (r : _) (hr : Pipeline.FramePost (Pipeline.pin pcfgs (pins m h)) (dats h (arrs m h)) 0
      (Pipeline.afterTail pcfgs (pins m h) (dats h (arrs m h)) 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  obtain ⟨hw, hrest⟩ := hr c
  obtain ⟨e0, e1, e2, e3, e4, e5⟩ := entry_args m c
  have rest : ∀ b : Ref sig .tc, b.isScoped = false → (∀ w, Pipeline.arrRef spec0 w ≠ b) → b ≠ main_v75 →
      r.2.mem ((c.tc : Thread nD τ).loc b) = entry m c (Proc.devRef .tc b) := fun b h1 h2 h3 =>
    (hrest b (Pipeline.mem_restRefs_of b h1 h2)).trans (tail_rest m h c b h2 h3)
  have h0 := (hw 1).trans (((dats h (arrs m h) 0 c).arrAt_in 1 rfl _).trans (A_eq m h c 1))
  have h2 := (hw 2).trans (((dats h (arrs m h) 0 c).arrAt_in 2 rfl _).trans (A_eq m h c 2))
  exact ⟨h0.trans e0, (rest main_arg1 rfl (by decide) (by decide)).trans e1, h2.trans e2,
    (rest main_arg3 rfl (by decide) (by decide)).trans e3, (rest main_arg4 rfl (by decide) (by decide)).trans e4,
    (rest main_arg5 rfl (by decide) (by decide)).trans e5⟩

include h in
/-- THE FRAME: every run ends, the arguments as they were, every counter at zero. -/
theorem frame_pool : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨args_kept m h r hr.1, hr.2⟩) (run_pool m g h)

/-- What the result array holds at the end: the first 10000 rows of what the pass leaves. -/
theorem tail_result (c : Dev nD) :
    Pipeline.afterTail pcfgs (pins m h) (dats h (arrs m h)) 0 (entry m) [hostOps1] c main_v75
      = extractStridedSlice S10000x128 ![0, 0] (show Vec F S10112x128 .f32 from (dats h (arrs m h) 0 c).arrAt 5 (cfg0 (adm h)).N) slices_S10112x128_S10000x128_0_0 := by
  unfold Pipeline.afterTail
  show StableHlo.after hostOps1 _ (Proc.devRef .tc main_v75) = _
  after_reads_simp
  exact congrArg (fun x : Vec F S10112x128 .f32 => extractStridedSlice S10000x128 ![0, 0] x slices_S10112x128_S10000x128_0_0)
    (Pipeline.withArrays_arr spec0 winFacts0.arr_inj c (entry m c) _ 5)

end Cert.PoolBody

end
-- ==== Proof.Entry.lean ====
/-
  The arrays the call reads, entry by entry, as the arguments have them: the segments cut into
  tiles, the bias as a row, and the last layer's weights filled up with columns of zeros.
-/
module

public import proofs.«01_k».proof.Proof.Frame
public import Idealize.ShloMosaic.Lib.KernelVsHost
public import Idealize.ShloMosaic.Lib.Pipeline.Value
public import Idealize.ShloMosaic.Lib.Routing.Ops

@[expose] public section

noncomputable section

namespace Cert.PoolBody

open Cert.KernelIdeal Cert.KernelIdeal.Gen
open Idealize.ShloMosaic Idealize.ShloMosaic.TcCoe Idealize.ShloMosaic.Tactic
open Idealize.ShloMosaic.ValueIdx Idealize.ShloMosaic.Routing

variable {F : FTy → Type} [FloatOps F]
variable (m : (ℓ : Loc nD τ sig) → Buf (Elt F) ℓ) (c : Dev nD)

set_option maxRecDepth 100000 in
set_option maxHeartbeats 4000000 in
/-- The segments, tile by tile. -/
theorem entry_ids : entry m c (Proc.devRef .tc main_v71)
    = shapeCast S200x1x1600 (m ((c : Thread nD τ).loc main_arg1) : Vec F S320000 .i32) shapeCasts_S320000_S200x1x1600 := by
  rw [entry_lines]
  after_reads_simp
  rfl

set_option maxRecDepth 100000 in
set_option maxHeartbeats 4000000 in
/-- The first layer's bias, as a row. -/
theorem entry_b1 : entry m c (Proc.devRef .tc main_v72)
    = shapeCast S1x64 (m ((c : Thread nD τ).loc main_arg3) : Vec F S64 .f32) shapeCasts_S64_S1x64 := by
  rw [entry_lines]
  after_reads_simp
  rfl

set_option maxRecDepth 100000 in
set_option maxHeartbeats 4000000 in
/-- The last layer's weights, followed by columns of the converted zero. -/
theorem entry_w2 : ∃ v : Vec F S_ .f32, entry m c (Proc.devRef .tc main_v73)
    = pad S64x8 ![0, 0] ![0, 7] ![0, 0] (m ((c : Thread nD τ).loc main_arg4) : Vec F S64x1 .f32) v pads_S64x1_S64x8_000_070 h_S_ := by
  rw [entry_lines]
  after_reads_simp
  exact ⟨_, rfl⟩

/-- The ids enter the call in tiles: row `r` of tile `t` is the id of row `1600 t + r`. -/
theorem entry_ids_apply (t : Fin 200) (r : Fin 1600) (i : Fin 320000) (hi : i.val = 1600 * t.val + r.val) :
    (entry m c (Proc.devRef .tc main_v71) : Vec F S200x1x1600 .i32) (ix3 t 0 r)
      = (m ((c : Thread nD τ).loc main_arg1) : Vec F S320000 .i32) (ix1 i) := by
  rw [entry_ids]
  exact cast13 (a := 200) (b := 1) (c := 1600) (n := 320000) _ _ t 0 r i (by show i.val = (t.val * 1 + 0) * 1600 + r.val; omega)

/-- The first bias enters the call as a row. -/
theorem entry_b1_apply (k : Fin 64) :
    (entry m c (Proc.devRef .tc main_v72) : Vec F S1x64 .f32) (ix2 0 k) = (m ((c : Thread nD τ).loc main_arg3) : Vec F S64 .f32) (ix1 k) := by
  rw [entry_b1]
  exact cast12 (a := 1) (b := 64) (n := 64) _ _ 0 k k (by show k.val = 0 * 64 + k.val; omega)

/-- Column 0 of the padded second matrix is the second matrix. -/
theorem entry_w2_apply (k : Fin 64) :
    (entry m c (Proc.devRef .tc main_v73) : Vec F S64x8 .f32) (ix2 k 0) = (m ((c : Thread nD τ).loc main_arg4) : Vec F S64x1 .f32) (ix2 k 0) := by
  obtain ⟨v, hv⟩ := entry_w2 m c
  rw [hv]
  refine pad_apply_of_inside _ _ _ _ _ _ _ _ (ix2 k 0) fun a => ?_
  match a with
  | ⟨0, _⟩ => show k.val = 0 + k.val * (0 + 1); omega
  | ⟨1, _⟩ => rfl

end Cert.PoolBody

end
-- ==== Proof.Plan.lean ====
/-
  The schedule over the naturals: from the number of rows below each bound, the tiles every block of
  128 segments visits, the points of the grid they take, and the block and tile of every point.
-/
module

public import Mathlib.Data.Nat.Count
public import Mathlib.Algebra.BigOperators.Intervals
public import Mathlib.Algebra.BigOperators.Group.Finset.Basic

@[expose] public section

namespace Cert.PoolPlan

/-- The tile block `s` starts at. -/
def t0 (r : ℕ → ℕ) (s : ℕ) : ℕ := r s / 1600
/-- The tile block `s` ends at. -/
def t1 (r : ℕ → ℕ) (s : ℕ) : ℕ := if r s < r (s + 1) then (r (s + 1) - 1) / 1600 else t0 r s
/-- The number of points block `s` takes. -/
def cnt (r : ℕ → ℕ) (s : ℕ) : ℕ := t1 r s - t0 r s + 1
/-- The number of points the blocks before `s` take. -/
def off (r : ℕ → ℕ) (s : ℕ) : ℕ := ((List.range s).map (cnt r)).sum
/-- The number of blocks wholly before point `e`. -/
def done (r : ℕ → ℕ) (e : ℕ) : ℕ := Nat.count (fun q => off r (q + 1) ≤ e) 79
/-- The block of point `e`. -/
def seg (r : ℕ → ℕ) (e : ℕ) : ℕ := min (done r e) 78
/-- The tile of point `e`. -/
def tile (r : ℕ → ℕ) (e : ℕ) : ℕ := if e < off r 79 then t0 r (seg r e) + (e - off r (seg r e)) else t1 r 78

/-- What the number of rows below each bound satisfies: it grows, and some row of the 320000 lies in the last block. -/
structure Rows (r : ℕ → ℕ) : Prop where
  mono : ∀ s, r s ≤ r (s + 1)
  total : ∀ s, r s ≤ 320000
  used : r 78 < 320000

variable {r : ℕ → ℕ}

/-- The next block starts after this block's points. -/
theorem off_succ (s : ℕ) : off r (s + 1) = off r s + cnt r s := by
  unfold off
  rw [List.range_succ, List.map_append, List.sum_append]
  simp

/-- Every block has a point. -/
theorem cnt_pos (s : ℕ) : 0 < cnt r s := Nat.succ_pos _

/-- The blocks start one after another. -/
theorem off_strictMono : StrictMono (off r) := strictMono_nat_of_lt_succ fun s => by rw [off_succ]; exact Nat.lt_add_of_pos_right (cnt_pos s)

namespace Rows
variable (h : Rows r)
include h

/-- The rows below the bounds do not decrease. -/
theorem monotone : Monotone r := monotone_nat_of_le_succ h.mono

/-- A block's first tile is not after its last one. -/
theorem t0_le_t1 (s : ℕ) : t0 r s ≤ t1 r s := by
  unfold t1; split
  · exact Nat.div_le_div_right (by omega)
  · exact le_rfl

/-- A block's last tile is not after the next block's first one. -/
theorem t1_le_t0 (s : ℕ) : t1 r s ≤ t0 r (s + 1) := by
  unfold t1; split
  · exact Nat.div_le_div_right (by omega)
  · exact Nat.div_le_div_right (h.mono s)

/-- A block's first tile is one of the 200. -/
theorem t0_le (s : ℕ) (hs : s ≤ 78) : t0 r s ≤ 199 := by
  have : r s ≤ r 78 := h.monotone hs
  have := h.used
  unfold t0; omega

/-- A block's last tile is one of the 200. -/
theorem t1_le (s : ℕ) (hs : s ≤ 78) : t1 r s ≤ 199 := by
  have := h.total (s + 1)
  have := h.t0_le s hs
  unfold t1; split
  · omega
  · assumption

/-- A block starts at a point no later than its first tile and its number together. -/
theorem off_le (s : ℕ) : off r s ≤ t0 r s + s := by
  induction s with
  | zero => exact Nat.zero_le _
  | succ s ih =>
    have := h.t1_le_t0 s
    have := h.t0_le_t1 s
    rw [off_succ]; unfold cnt; omega

/-- The blocks end before the last of the 279 points. -/
theorem off_last : off r 79 ≤ 278 := by
  have h1 := h.off_le 78
  have h2 := h.t1_le 78 le_rfl
  have h3 := h.t0_le_t1 78
  rw [off_succ]; unfold cnt; omega

end Rows

/-- The blocks wholly before a point of block `s` are the blocks before `s`. -/
theorem done_eq {s e : ℕ} (hs : s ≤ 79) (h1 : off r s ≤ e) (h2 : s < 79 → e < off r (s + 1)) : done r e = s := by
  unfold done
  have key : ∀ q, q < 79 → (off r (q + 1) ≤ e ↔ q < s) := fun q hq => by
    constructor
    · intro hle
      by_contra hge
      rcases Nat.lt_or_ge s 79 with hlt | hge'
      · have := h2 hlt
        have := (off_strictMono (r := r)).monotone (show s + 1 ≤ q + 1 by omega)
        omega
      · omega
    · intro hlt
      exact le_trans (off_strictMono.monotone (show q + 1 ≤ s from hlt)) h1
  have e1 : Nat.count (fun q => off r (q + 1) ≤ e) 79 = Nat.count (fun q => q < s) 79 := by
    rw [Nat.count_eq_card_filter_range, Nat.count_eq_card_filter_range]
    exact congrArg _ (Finset.filter_congr fun q hq => key q (Finset.mem_range.1 hq))
  rw [e1, Nat.count_eq_card_filter_range]
  have : Finset.filter (fun q => q < s) (Finset.range 79) = Finset.range s := by
    ext q; simp only [Finset.mem_filter, Finset.mem_range]; omega
  rw [this, Finset.card_range]

/-- Every point is past all blocks or lies in one. -/
theorem exists_block (e : ℕ) (he : e < off r 79) : ∃ s, s ≤ 78 ∧ off r s ≤ e ∧ e < off r (s + 1) := by
  have : ∀ n, e < off r n → ∃ s, s < n ∧ off r s ≤ e ∧ e < off r (s + 1) := by
    intro n
    induction n with
    | zero => intro h; exact absurd h (Nat.not_lt_zero _)
    | succ n ih =>
      intro h
      rcases Nat.lt_or_ge e (off r n) with hlt | hge
      · obtain ⟨s, hs, h'⟩ := ih hlt
        exact ⟨s, by omega, h'⟩
      · exact ⟨n, by omega, hge, h⟩
  obtain ⟨s, hs, h'⟩ := this 79 he
  exact ⟨s, by omega, h'⟩

/-- A point of block `s`. -/
theorem seg_of_mem {s e : ℕ} (hs : s ≤ 78) (h1 : off r s ≤ e) (h2 : e < off r (s + 1)) : seg r e = s := by
  unfold seg; rw [done_eq (by omega) h1 fun _ => h2]; omega

/-- The points past the blocks carry the last block's number. -/
theorem seg_of_past {e : ℕ} (h1 : off r 79 ≤ e) : seg r e = 78 := by
  unfold seg; rw [done_eq le_rfl h1 fun h => absurd h (by omega)]; rfl

/-- Every point carries the number of a block. -/
theorem seg_le (e : ℕ) : seg r e ≤ 78 := Nat.min_le_right _ _

/-- The tile of a point of block `s`: the block's first tile and as many further as the point is into the block. -/
theorem tile_of_mem {s e : ℕ} (hs : s ≤ 78) (h1 : off r s ≤ e) (h2 : e < off r (s + 1)) : tile r e = t0 r s + (e - off r s) := by
  have : off r (s + 1) ≤ off r 79 := off_strictMono.monotone (by omega)
  unfold tile; rw [if_pos (by omega), seg_of_mem hs h1 h2]

/-- Every point's tile is one of the 200. -/
theorem tile_le (h : Rows r) (e : ℕ) : tile r e ≤ 199 := by
  rcases Nat.lt_or_ge e (off r 79) with hlt | hge
  · obtain ⟨s, hs, h1, h2⟩ := exists_block e hlt
    rw [tile_of_mem hs h1 h2]
    have := h.t1_le s hs
    have := h.t0_le_t1 s
    rw [off_succ] at h2; unfold cnt at h2; omega
  · unfold tile; rw [if_neg (by omega)]; exact h.t1_le 78 le_rfl

/-- Some point lies in a block. -/
theorem off_pos : 0 < off r 79 := lt_of_le_of_lt (Nat.zero_le _) (off_strictMono (show 78 < 79 by omega))

/-- Where the block changes, the point lies in a block. -/
theorem lt_of_turn {e : ℕ} (h : seg r (e + 1) ≠ seg r e) : e + 1 < off r 79 := by
  by_contra hge
  apply h
  rw [seg_of_past (by omega)]
  rcases Nat.lt_or_ge e (off r 79) with hlt | hge'
  · exact (seg_of_mem le_rfl (by have := off_strictMono (r := r) (show 78 < 79 by omega); omega) hlt).symm
  · rw [seg_of_past hge']

end Cert.PoolPlan
-- ==== Proof.Words.lean ====
/-
  The words of the schedule: what each host line computes, entry by entry, where the number of rows
  below each bound of 128 segments is known.
-/
module

public import proofs.«01_k».proof.Proof.Gen.KernelIdeal.Launch
public import proofs.«01_k».proof.Proof.Plan
public import Idealize.ShloMosaic.Lib.Routing.Words
public import Idealize.ShloMosaic.Lib.Routing.OpsSet
public import Idealize.ShloMosaic.Lib.PlanTiles.Rows
public import Idealize.ShloMosaic.Lib.WordCmp

@[expose] public section

noncomputable section

namespace Cert.PoolWords

open Cert.KernelIdeal Cert.KernelIdeal.Gen Cert.PoolPlan
open Idealize.ShloMosaic Idealize.ShloMosaic.ValueIdx Idealize.ShloMosaic.Routing Idealize.ShloMosaic.WordCmp

/-! ### The rows below each bound -/

/-- The number of rows whose segment is below `128 k`. -/
def below (b : IVec S320000 32) (k : ℕ) : ℕ :=
  Nat.count (fun q => ∃ h : q < 320000, (b (ix1 ⟨q, h⟩)).toInt < 128 * (k : ℤ)) 320000

/-- There are no more rows below a bound than rows. -/
theorem below_le (b : IVec S320000 32) (k : ℕ) : below b k ≤ 320000 := Nat.count_le _

/-- The rows below the bounds do not decrease. -/
theorem below_mono (b : IVec S320000 32) (k : ℕ) : below b k ≤ below b (k + 1) := by
  unfold below
  rw [Nat.count_eq_card_filter_range, Nat.count_eq_card_filter_range]
  refine Finset.card_le_card fun q hq => ?_
  rw [Finset.mem_filter] at hq ⊢
  obtain ⟨h0, h1, h2⟩ := hq
  exact ⟨h0, h1, by push_cast; omega⟩

/-- Some row of the last block: the rows are a schedule. -/
theorem rows_of_used (b : IVec S320000 32) (x : S320000.Idx) (hx : 9984 ≤ (b x).toInt) : Rows (below b) where
  mono := below_mono b
  total := below_le b
  used := by
    unfold below
    rw [Nat.count_eq_card_filter_range]
    refine lt_of_lt_of_eq (Finset.card_lt_card (t := Finset.range 320000) ?_) (Finset.card_range _)
    refine (Finset.ssubset_iff_of_subset (Finset.filter_subset _ _)).2 ⟨(x 0).val, Finset.mem_range.2 (x 0).isLt, fun hq => ?_⟩
    rw [Finset.mem_filter] at hq
    obtain ⟨-, h1, h2⟩ := hq
    have e : x = ix1 ⟨(x 0).val, h1⟩ := funext fun a => by match a with | ⟨0, _⟩ => rfl
    rw [e] at hx
    have h2' : (b (ix1 ⟨(x 0).val, h1⟩)).toInt < 128 * ((78 : ℕ) : ℤ) := h2
    push_cast at h2'
    omega

/-- The host's row starts. -/
def rowStarts (b : IVec S320000 32) : IVec S80 32 :=
  Host.reduce IntOp.addi
    (extui 32 (cmpi .slt (broadcastInDim S80x320000 ![0, 1] bcast_S1x320000_S80x320000_0_1 (broadcastInDim S1x320000 ![1] bcast_S320000_S1x320000_1 b))
      (broadcastInDim S80x320000 ![0, 1] bcast_S80x1_S80x320000_0_1 (broadcastInDim S80x1 ![0] bcast_S80_S80x1_0
        (muli (iotaInDim S80 32 0) (broadcastInDim S80 ![] bcast_S_S80 (constantI S_ 32 128#32)))))) natLt_1_32)
    (constantI S_ 32 0#32) reducesTo_S80x320000_S80_d1 h_S_

/-- The host lines count the rows below each bound. -/
theorem rowStarts_word (b : IVec S320000 32) (k : Fin 80) : rowStarts b (ix1 k) = BitVec.ofNat 32 (below b k.val) := by
  unfold rowStarts below
  refine reduce_count (by decide) _ natLt_1_32 reducesTo_S80x320000_S80_d1 h_S_ k _ fun q => ?_
  have e1 := bcCols (n := 80) bcast_S320000_S1x320000_1 bcast_S1x320000_S80x320000_0_1 b k q
  have e2 := bcRows (m := 320000) bcast_S80_S80x1_0 bcast_S80x1_S80x320000_0_1
    (muli (iotaInDim S80 32 0) (broadcastInDim S80 ![] bcast_S_S80 (constantI S_ 32 128#32))) k q
  rw [cmpi_at]
  erw [e1, e2]
  rw [muli_ap]
  have e3 : (iotaInDim S80 32 0 (ix1 k) * broadcastInDim S80 ![] bcast_S_S80 (constantI S_ 32 128#32) (ix1 k) : BitVec 32) = BitVec.ofNat 32 (128 * k.val) := by
    show BitVec.ofNat 32 k.val * 128#32 = _
    rw [show (128#32 : BitVec 32) = BitVec.ofNat 32 128 from rfl, ← BitVec.ofNat_mul, Nat.mul_comm]
  rw [e3, cmpi_slt_eq, ofBool_decide_eq_one_iff, toInt_ofNat_of_lt (by have := k.isLt; omega)]
  push_cast
  exact ⟨fun h => ⟨q.isLt, h⟩, fun ⟨_, h⟩ => h⟩

/-! ### The tiles and the counts of the blocks -/

variable {r : ℕ → ℕ} (h : Rows r)

section Blocks
variable (lo hi : IVec S79 32) (d : IVec S_ 32)

/-- The tiles the blocks start at, from their first rows. -/
abbrev starts : IVec S79 32 := pyDiv bcast_S_S79 lo d
/-- The tiles the blocks end at. -/
abbrev ends : IVec S79 32 :=
  select (cmpi .sgt hi lo) (pyDiv bcast_S_S79 (subi hi (broadcastInDim S79 ![] bcast_S_S79 (constantI S_ 32 1#32))) (constantI S_ 32 1600#32)) (starts lo d)

variable (hlo : ∀ s : Fin 79, lo (ix1 s) = BitVec.ofNat 32 (r s.val)) (hhi : ∀ s : Fin 79, hi (ix1 s) = BitVec.ofNat 32 (r (s.val + 1)))
  (hd : d ix0 = 1600#32)
include h hlo hd

/-- The first tile of each block. -/
theorem starts_word (s : Fin 79) : starts lo d (ix1 s) = BitVec.ofNat 32 (t0 r s.val) :=
  pyDiv_ap bcast_S_S79 lo d (ix1 s) (hlo s) hd (by have := h.total s.val; omega) (by decide) (by decide)

include hhi

/-- The last tile of each block. -/
theorem ends_word (s : Fin 79) : ends lo hi d (ix1 s) = BitVec.ofNat 32 (t1 r s.val) := by
  have hl := h.total s.val
  have hh := h.total (s.val + 1)
  have hs := starts_word h lo d hlo hd s
  unfold ends
  rw [select_at, cmpi_at, hlo s, hhi s, cmpi_sgt_ofNat (by omega) (by omega), select_decide, hs]
  unfold t1
  by_cases hlt : r s.val < r (s.val + 1)
  · rw [if_pos hlt, if_pos hlt]
    refine pyDiv_ap bcast_S_S79 _ _ (ix1 s) (a := r (s.val + 1) - 1) (b := 1600) ?_ rfl (by omega) (by decide) (by decide)
    rw [subi_ap, hhi s]
    show BitVec.ofNat 32 (r (s.val + 1)) - BitVec.ofNat 32 1 = _
    exact ofNat32_sub (by omega)
  · rw [if_neg hlt, if_neg hlt]

/-- The counts of the blocks' points. -/
theorem counts_word (s : Fin 79) :
    addi (subi (ends lo hi d) (starts lo d)) (broadcastInDim S79 ![] bcast_S_S79 (constantI S_ 32 1#32)) (ix1 s) = BitVec.ofNat 32 (cnt r s.val) := by
  rw [addi_ap, subi_ap, ends_word h lo hi d hlo hhi hd s, starts_word h lo d hlo hd s, ofNat32_sub (h.t0_le_t1 s.val)]
  show _ + BitVec.ofNat 32 1 = _
  rw [← BitVec.ofNat_add]; rfl

end Blocks

/-! ### The running counts -/

/-- The running sums of the blocks' points are where the blocks end. -/
theorem sums_word (x : IVec S79 32) (hx : ∀ s : Fin 79, x (ix1 s) = BitVec.ofNat 32 (cnt r s.val)) (init : IVec S_ 32) (hi : init ix0 = 0#32) (s : Fin 79) :
    Host.reduceWindow IntOp.addi ![79] ![1] ![78] ![0] x init reduceWindows_S79_S79_w79s1p78_0 h_S_ (ix1 s) = BitVec.ofNat 32 (off r (s.val + 1)) :=
  cumsum1 (by decide) x (cnt r) hx init hi reduceWindows_S79_S79_w79s1p78_0 h_S_ s

/-! ### The points -/

section Points
variable (cum cnts st en : IVec S79 32)

/-- The last running count. -/
abbrev total : IVec S_ 32 := shapeCast S_ (extractStridedSlice S1 ![78] cum slices_S79_S1_78) shapeCasts_S1_S_
/-- The points that lie in a block. -/
abbrev valids : IVec S279 1 := cmpi .slt (iotaInDim S279 32 0) (broadcastInDim S279 ![] bcast_S_S279 (total cum))
/-- The block of each point. -/
abbrev segs : IVec S279 32 :=
  minsi (Host.reduce IntOp.addi
      (extui 32 (cmpi .sle (broadcastInDim S279x79 ![0, 1] bcast_S1x79_S279x79_0_1 (broadcastInDim S1x79 ![1] bcast_S79_S1x79_1 cum))
        (broadcastInDim S279x79 ![0, 1] bcast_S279x1_S279x79_0_1 (broadcastInDim S279x1 ![0] bcast_S279_S279x1_0 (iotaInDim S279 32 0)))) natLt_1_32)
      (constantI S_ 32 0#32) reducesTo_S279x79_S279_d1 h_S_)
    (broadcastInDim S279 ![] bcast_S_S279 (constantI S_ 32 78#32))
/-- A row of block numbers as the host reads a vector at it. -/
abbrev wrapped (sg : IVec S279 32) : IVec S279x1 32 :=
  broadcastInDim S279x1 ![0] bcast_S279_S279x1_0
    (select (cmpi .slt sg (broadcastInDim S279 ![] bcast_S_S279 (constantI S_ 32 0#32)))
      (addi sg (broadcastInDim S279 ![] bcast_S_S279 (constantI S_ 32 79#32))) sg)
/-- The vector `x` at the blocks `sg`. -/
abbrev taken (x : IVec S79 32) (sg : IVec S279 32) : IVec S279 32 := Host.gather gather_S79_S279x1_S279_n_0_n_n_0_1_1 x (wrapped sg)
/-- The tile of each point. -/
abbrev tiles : IVec S279 32 :=
  select (valids cum)
    (addi (taken st (segs cum)) (subi (iotaInDim S279 32 0) (taken (subi cum cnts) (segs cum))))
    (broadcastInDim S279 ![] bcast_S_S279 (shapeCast S_ (extractStridedSlice S1 ![78] en slices_S79_S1_78) shapeCasts_S1_S_))

variable (hcum : ∀ s : Fin 79, cum (ix1 s) = BitVec.ofNat 32 (off r (s.val + 1)))

/-- A vector's last entry, as the host reads it. -/
theorem last_word (x : IVec S79 32) : shapeCast S_ (extractStridedSlice S1 ![78] x slices_S79_S1_78) shapeCasts_S1_S_ ix0 = x (ix1 78) := by
  refine (shapeCast_apply _ shapeCasts_S1_S_ ix0 (ix1 (0 : Fin 1)) ?_).trans (slice1 78 x slices_S79_S1_78 0 (by decide))
  rfl

include h in
/-- Every block starts at one of the first 279 points. -/
theorem off_small (s : ℕ) (hs : s ≤ 79) : off r s ≤ 278 := le_trans (off_strictMono.monotone hs) h.off_last

include h hcum

/-- Whether a point lies in a block. -/
theorem valids_word (e : Fin 279) : valids cum (ix1 e) = BitVec.ofBool (decide (e.val < off r 79)) := by
  have h1 := h.off_last
  unfold valids
  rw [cmpi_at, iota1_ap]
  erw [bc0]
  rw [show total cum ix0 = _ from last_word cum, hcum 78]
  exact cmpi_slt_ofNat (by have := e.isLt; omega) (by show off r 79 < _; omega)

/-- The block of each point. -/
theorem segs_word (e : Fin 279) : segs cum (ix1 e) = BitVec.ofNat 32 (seg r e.val) := by
  have key : Host.reduce IntOp.addi
      (extui 32 (cmpi .sle (broadcastInDim S279x79 ![0, 1] bcast_S1x79_S279x79_0_1 (broadcastInDim S1x79 ![1] bcast_S79_S1x79_1 cum))
        (broadcastInDim S279x79 ![0, 1] bcast_S279x1_S279x79_0_1 (broadcastInDim S279x1 ![0] bcast_S279_S279x1_0 (iotaInDim S279 32 0)))) natLt_1_32)
      (constantI S_ 32 0#32) reducesTo_S279x79_S279_d1 h_S_ (ix1 e) = BitVec.ofNat 32 (done r e.val) := by
    refine reduce_count (by decide) _ natLt_1_32 reducesTo_S279x79_S279_d1 h_S_ e _ fun q => ?_
    rw [cmpi_at]
    erw [bcCols (n := 279) bcast_S79_S1x79_1 bcast_S1x79_S279x79_0_1 cum e q,
      bcRows (m := 79) bcast_S279_S279x1_0 bcast_S279x1_S279x79_0_1 (iotaInDim S279 32 0) e q]
    rw [hcum q, iota1_ap]
    have := off_small h (q.val + 1) q.isLt
    have := e.isLt
    exact cmpi_sle_ofNat_eq_one_iff (by omega) (by omega)
  show IntOp.minsi _ (78#32) = _
  rw [key]
  have hd : done r e.val ≤ 79 := Nat.count_le _
  exact (PlanTiles.minsi_word (b := 78) (by omega) (by decide)).trans (by rw [Nat.min_comm]; rfl)

/-- A vector read at the block of each point. -/
theorem taken_word (x : IVec S79 32) (f : ℕ → ℕ) (hx : ∀ s : Fin 79, x (ix1 s) = BitVec.ofNat 32 (f s.val)) (e : Fin 279) :
    taken x (segs cum) (ix1 e) = BitVec.ofNat 32 (f (seg r e.val)) := by
  have hs := seg_le (r := r) e.val
  refine (gather_take1 gather_S79_S279x1_S279_n_0_n_n_0_1_1 rfl rfl rfl rfl x _ e ⟨seg r e.val, by omega⟩ ?_ (by decide)).trans (hx _)
  refine (bcCol bcast_S279_S279x1_0 _ e).trans ?_
  rw [select_at, cmpi_at, segs_word h cum hcum e]
  show Scalar.select (IntOp.cmpi .slt _ (BitVec.ofNat 32 0)) _ _ = _
  rw [cmpi_slt_ofNat (by omega) (by decide), select_decide, if_neg (by omega)]

/-- The tile of each point. -/
theorem tiles_word (hc : ∀ s : Fin 79, cnts (ix1 s) = BitVec.ofNat 32 (cnt r s.val)) (hst : ∀ s : Fin 79, st (ix1 s) = BitVec.ofNat 32 (t0 r s.val))
    (hen : ∀ s : Fin 79, en (ix1 s) = BitVec.ofNat 32 (t1 r s.val)) (e : Fin 279) : tiles cum cnts st en (ix1 e) = BitVec.ofNat 32 (tile r e.val) := by
  unfold tiles
  rw [select_at, valids_word h cum hcum e, select_decide]
  unfold tile
  by_cases hlt : e.val < off r 79
  · rw [if_pos hlt, if_pos hlt, addi_ap, subi_ap, taken_word h cum hcum st (t0 r) hst e,
      taken_word h cum hcum (subi cum cnts) (off r) (fun s => by
        rw [subi_ap, hcum s, hc s, off_succ, ofNat32_sub (by omega), Nat.add_sub_cancel]) e, iota1_ap]
    obtain ⟨s, hs, h1, h2⟩ := exists_block e.val hlt
    rw [seg_of_mem hs h1 h2, ofNat32_sub h1, ← BitVec.ofNat_add]
  · rw [if_neg hlt, if_neg hlt]
    erw [bc0]
    rw [last_word]; exact hen 78

end Points

end Cert.PoolWords

end
-- ==== Proof.Table.lean ====
/-
  The table the call reads, word by word, from the rows of the batch; and that it is a schedule the
  pass accepts as soon as some row lies in the last block of segments.
-/
module

public import proofs.«01_k».proof.Proof.Frame
public import proofs.«01_k».proof.Proof.Words
public import Idealize.ShloMosaic.Lib.Pipeline.Value

@[expose] public section

noncomputable section

namespace Cert.PoolWords

open Cert.KernelIdeal Cert.KernelIdeal.Gen Cert.PoolPlan Cert.PoolBody
open Idealize.ShloMosaic Idealize.ShloMosaic.TcCoe Idealize.ShloMosaic.Tactic
open Idealize.ShloMosaic.ValueIdx Idealize.ShloMosaic.Routing Idealize.ShloMosaic.WordCmp

variable {F : FTy → Type} [FloatOps F]

/-! ### What the host lines leave, stage by stage -/

section Reads
variable (V : Valuation τ sig (Elt F))

set_option maxRecDepth 100000 in
set_option maxHeartbeats 400000 in
/-- The first and the last rows of the blocks, and the divisor. -/
theorem read_rows :
    StableHlo.after hostOps0 V (Proc.devRef .tc main_v10) = extractStridedSlice S79 ![0] (rowStarts (V (Proc.devRef .tc main_arg1))) slices_S80_S79_0
    ∧ StableHlo.after hostOps0 V (Proc.devRef .tc main_v11) = extractStridedSlice S79 ![1] (rowStarts (V (Proc.devRef .tc main_arg1))) slices_S80_S79_1
    ∧ StableHlo.after hostOps0 V (Proc.devRef .tc main_c_1) = constantI S_ 32 1600#32 := by
  refine ⟨?_, ?_, ?_⟩ <;> after_reads_simp <;> rfl

set_option maxRecDepth 100000 in
set_option maxHeartbeats 400000 in
/-- The tiles the blocks start at. -/
theorem read_starts :
    StableHlo.after hostOps0_1 V (Proc.devRef .tc main_v12) = starts (V (Proc.devRef .tc main_v10)) (V (Proc.devRef .tc main_c_1))
    ∧ StableHlo.after hostOps0_1 V (Proc.devRef .tc main_v10) = V (Proc.devRef .tc main_v10)
    ∧ StableHlo.after hostOps0_1 V (Proc.devRef .tc main_v11) = V (Proc.devRef .tc main_v11) := by
  refine ⟨?_, ?_, ?_⟩ <;> after_reads_simp <;> rfl

/-- The lines that compute the tiles the blocks end at. -/
abbrev endLines : Valuation τ sig (Elt F) := StableHlo.after hostOps0_4 (StableHlo.after hostOps0_3 (StableHlo.after hostOps0_2 V))

set_option maxRecDepth 100000 in
set_option maxHeartbeats 400000 in
/-- The tiles the blocks end at. -/
theorem read_ends :
    endLines V (Proc.devRef .tc main_v17) = select (cmpi .sgt (V (Proc.devRef .tc main_v11)) (V (Proc.devRef .tc main_v10)))
        (pyDiv bcast_S_S79 (subi (V (Proc.devRef .tc main_v11)) (broadcastInDim S79 ![] bcast_S_S79 (constantI S_ 32 1#32))) (constantI S_ 32 1600#32))
        (V (Proc.devRef .tc main_v12))
    ∧ endLines V (Proc.devRef .tc main_v12) = V (Proc.devRef .tc main_v12) := by
  refine ⟨?_, ?_⟩ <;> after_reads_simp <;> rfl

/-- The lines that count the points of the blocks. -/
abbrev countLines : Valuation τ sig (Elt F) := StableHlo.after hostOps0_6 (StableHlo.after hostOps0_5 V)

/-- The counts of the blocks' points. -/
abbrev counts (st en : IVec S79 32) : IVec S79 32 := addi (subi en st) (broadcastInDim S79 ![] bcast_S_S79 (constantI S_ 32 1#32))
/-- The running counts. -/
abbrev sums (x : IVec S79 32) : IVec S79 32 :=
  Host.reduceWindow IntOp.addi ![79] ![1] ![78] ![0] x (broadcastInDim S_ ![] bcast_S_S_ (constantI S_ 32 0#32)) reduceWindows_S79_S79_w79s1p78_0 h_S_

set_option maxRecDepth 100000 in
set_option maxHeartbeats 400000 in
/-- The counts. -/
theorem read_counts : StableHlo.after hostOps0_5 V (Proc.devRef .tc main_v20) = counts (V (Proc.devRef .tc main_v12)) (V (Proc.devRef .tc main_v17))
    ∧ StableHlo.after hostOps0_5 V (Proc.devRef .tc main_v12) = V (Proc.devRef .tc main_v12)
    ∧ StableHlo.after hostOps0_5 V (Proc.devRef .tc main_v17) = V (Proc.devRef .tc main_v17) := by
  refine ⟨?_, ?_, ?_⟩ <;> after_reads_simp <;> rfl

attribute [local irreducible] Host.reduceWindow in
set_option maxRecDepth 100000 in
set_option maxHeartbeats 400000 in
/-- The running counts. -/
theorem read_sums : StableHlo.after hostOps0_6 V (Proc.devRef .tc main_v21) = sums (V (Proc.devRef .tc main_v20))
    ∧ StableHlo.after hostOps0_6 V (Proc.devRef .tc main_v20) = V (Proc.devRef .tc main_v20)
    ∧ StableHlo.after hostOps0_6 V (Proc.devRef .tc main_v12) = V (Proc.devRef .tc main_v12)
    ∧ StableHlo.after hostOps0_6 V (Proc.devRef .tc main_v17) = V (Proc.devRef .tc main_v17) := by
  refine ⟨?_, ?_, ?_, ?_⟩ <;> after_reads_simp <;> rfl

/-- The lines that lay out the points. -/
abbrev pointLines : Valuation τ sig (Elt F) := StableHlo.after hostOps0_8 (StableHlo.after hostOps0_7 V)

set_option maxRecDepth 100000 in
set_option maxHeartbeats 400000 in
/-- The points that lie in a block, the block and the tile of each point. -/
theorem read_points :
    pointLines V (Proc.devRef .tc main_v33) = valids (V (Proc.devRef .tc main_v21))
    ∧ pointLines V (Proc.devRef .tc main_v35) = segs (V (Proc.devRef .tc main_v21))
    ∧ pointLines V (Proc.devRef .tc main_v55) = tiles (V (Proc.devRef .tc main_v21)) (V (Proc.devRef .tc main_v20)) (V (Proc.devRef .tc main_v12)) (V (Proc.devRef .tc main_v17)) := by
  refine ⟨?_, ?_, ?_⟩ <;> after_reads_simp <;> rfl

/-- Where the block changes from one point to the next. -/
abbrev changes (sg : IVec S279 32) : IVec S278 1 :=
  cmpi .ne (extractStridedSlice S278 ![1] sg slices_S279_S278_1) (extractStridedSlice S278 ![0] sg slices_S279_S278_0)
/-- A set bit. -/
abbrev oneBit : IVec S1 1 := broadcastInDim S1 ![] bcast_S_S1 (constantI S_ 1 1#1)
/-- A row of the table. -/
abbrev row (x : IVec S279 32) : IVec S1x279 32 := broadcastInDim S1x279 ![1] bcast_S279_S1x279_1 x
/-- The table. -/
abbrev table (tl sg : IVec S279 32) (vd : IVec S279 1) : IVec S5x279 32 :=
  concatenate S5x279 0 [⟨S1x279, row tl⟩, ⟨S1x279, row sg⟩,
    ⟨S1x279, row (extui 32 (concatenate S279 0 [⟨S1, oneBit⟩, ⟨S278, changes sg⟩] concatenates_S1_S278_S279_d0) natLt_1_32)⟩,
    ⟨S1x279, row (extui 32 (concatenate S279 0 [⟨S278, changes sg⟩, ⟨S1, oneBit⟩] concatenates_S278_S1_S279_d0) natLt_1_32)⟩,
    ⟨S1x279, row (extui 32 vd natLt_1_32)⟩] concatenates_S1x279_S1x279_S1x279_S1x279_S1x279_S5x279_d0

/-- The lines that write the table and the call's other arrays. -/
abbrev tableLines : Valuation τ sig (Elt F) := StableHlo.after hostOps0_10 (StableHlo.after hostOps0_9 V)

set_option maxRecDepth 100000 in
set_option maxHeartbeats 400000 in
/-- The table. -/
theorem read_table : tableLines V (Proc.devRef .tc main_v70)
    = table (V (Proc.devRef .tc main_v55)) (V (Proc.devRef .tc main_v35)) (V (Proc.devRef .tc main_v33)) := by
  after_reads_simp
  rfl

end Reads

/-! ### The table's words -/

/-- A row of the table at a point. -/
theorem row_at (x : IVec S279 32) (e : Fin 279) : row x (ix2 (0 : Fin 1) e) = x (ix1 e) := by
  refine broadcastInDim_apply _ bcast_S279_S1x279_1 x _ _ fun a => ?_
  match a with
  | ⟨0, _⟩ => rfl

section Words
variable (tl sg : IVec S279 32) (vd : IVec S279 1)

/-- The bits of the points at which the block has changed. -/
abbrev firsts : IVec S279 1 := concatenate S279 0 [⟨S1, oneBit⟩, ⟨S278, changes sg⟩] concatenates_S1_S278_S279_d0
/-- The bits of the points after which the block changes. -/
abbrev lasts : IVec S279 1 := concatenate S279 0 [⟨S278, changes sg⟩, ⟨S1, oneBit⟩] concatenates_S278_S1_S279_d0
/-- The table's rows. -/
abbrev pieces : List ((s : Shape) × (s.Idx → BitVec 32)) :=
  [⟨S1x279, row tl⟩, ⟨S1x279, row sg⟩, ⟨S1x279, row (extui 32 (firsts sg) natLt_1_32)⟩,
    ⟨S1x279, row (extui 32 (lasts sg) natLt_1_32)⟩, ⟨S1x279, row (extui 32 vd natLt_1_32)⟩]

/-- A word of the table is its row's word. -/
theorem table_at (k : Fin 5) (e : Fin 279) (x : IVec S279 32) (hx : (pieces tl sg vd)[k.val]'k.isLt = ⟨S1x279, row x⟩) :
    table tl sg vd (cell k e) = x (ix1 e) := by
  refine (concatenate_apply_piece (t := S5x279) 0 (pieces tl sg vd) concatenates_S1x279_S1x279_S1x279_S1x279_S1x279_S5x279_d0 (cell k e) k.val
    k.isLt S1x279 (row x) hx rfl k.val ?_ (ix2 (0 : Fin 1) e) ?_ ?_).trans (row_at x e)
  · fin_cases k <;> rfl
  · intro b hb
    match b with
    | ⟨0, _⟩ => exact absurd rfl hb
    | ⟨1, _⟩ => rfl
  · rfl

variable {r : ℕ → ℕ} (hsg : ∀ e : Fin 279, sg (ix1 e) = BitVec.ofNat 32 (seg r e.val))
include hsg

/-- Whether the block changes after a point. -/
theorem changes_word (n : Fin 278) : changes sg (ix1 n) = BitVec.ofBool (decide (seg r (n.val + 1) ≠ seg r n.val)) := by
  have hn := n.isLt
  have h1 : extractStridedSlice S278 ![1] sg slices_S279_S278_1 (ix1 n) = BitVec.ofNat 32 (seg r (n.val + 1)) := by
    refine (slice1 1 sg slices_S279_S278_1 n (by omega)).trans ((hsg _).trans ?_)
    show BitVec.ofNat 32 (seg r (1 + n.val)) = _
    rw [Nat.add_comm]
  have h0 : extractStridedSlice S278 ![0] sg slices_S279_S278_0 (ix1 n) = BitVec.ofNat 32 (seg r n.val) := by
    refine (slice1 0 sg slices_S279_S278_0 n (by omega)).trans ((hsg _).trans ?_)
    show BitVec.ofNat 32 (seg r (0 + n.val)) = _
    rw [Nat.zero_add]
  have s1 := seg_le (r := r) (n.val + 1)
  have s0 := seg_le (r := r) n.val
  show IntOp.cmpi .ne _ _ = _
  rw [h1, h0, cmpi_ne_ofNat (by omega) (by omega)]

/-- Whether a point is its block's first one. -/
theorem firsts_word (e : Fin 279) : firsts sg (ix1 e) = BitVec.ofBool (decide (e.val = 0 ∨ seg r e.val ≠ seg r (e.val - 1))) := by
  obtain ⟨n, hn⟩ := e
  match n with
  | 0 =>
    refine (concatenate_pair_apply_left (t := S279) 0 oneBit (changes sg) concatenates_S1_S278_S279_d0 _ rfl (ix1 (0 : Fin 1)) fun b => ?_).trans ?_
    · match b with | ⟨0, _⟩ => rfl
    · simp [oneBit, broadcastInDim, constantI]
  | n + 1 =>
    refine (concatenate_pair_apply_right (t := S279) 0 oneBit (changes sg) concatenates_S1_S278_S279_d0 _ rfl rfl (ix1 ⟨n, by omega⟩) (fun b hb => ?_) ?_).trans
      ((changes_word sg hsg ⟨n, by omega⟩).trans ?_)
    · match b with | ⟨0, _⟩ => exact absurd rfl hb
    · rfl
    · simp

/-- Whether a point is its block's last one. -/
theorem lasts_word (e : Fin 279) : lasts sg (ix1 e) = BitVec.ofBool (decide (e.val = 278 ∨ seg r (e.val + 1) ≠ seg r e.val)) := by
  obtain ⟨n, hn⟩ := e
  rcases Nat.lt_or_ge n 278 with hlt | hge
  · refine (concatenate_pair_apply_left (t := S279) 0 (changes sg) oneBit concatenates_S278_S1_S279_d0 _ rfl (ix1 ⟨n, hlt⟩) fun b => ?_).trans
      ((changes_word sg hsg ⟨n, hlt⟩).trans ?_)
    · match b with | ⟨0, _⟩ => rfl
    · have : ¬ n = 278 := by omega
      simp [this]
  · obtain rfl : n = 278 := by omega
    refine (concatenate_pair_apply_right (t := S279) 0 (changes sg) oneBit concatenates_S278_S1_S279_d0 _ rfl rfl (ix1 (0 : Fin 1)) (fun b hb => ?_) ?_).trans ?_
    · match b with | ⟨0, _⟩ => exact absurd rfl hb
    · rfl
    · simp [oneBit, broadcastInDim, constantI]

end Words

/-! ### The table of a run -/

variable (m : (ℓ : Loc nD τ sig) → Buf (Elt F) ℓ)

/-- The batch of a run. -/
abbrev batchOf : IVec S320000 32 := m (((0 : Dev nD) : Thread nD τ).loc main_arg1)

/-- What the table of a run holds, where the rows below the bounds are a schedule. -/
structure Words (T : S5x279.Idx → BitVec 32) (r : ℕ → ℕ) : Prop where
  tile : ∀ e : Fin 279, T (cell 0 e) = BitVec.ofNat 32 (tile r e.val)
  seg : ∀ e : Fin 279, T (cell 1 e) = BitVec.ofNat 32 (seg r e.val)
  first : ∀ e : Fin 279, T (cell 2 e) = BitVec.ofNat 32 (if e.val = 0 ∨ PoolPlan.seg r e.val ≠ PoolPlan.seg r (e.val - 1) then 1 else 0)
  last : ∀ e : Fin 279, T (cell 3 e) = BitVec.ofNat 32 (if e.val = 278 ∨ PoolPlan.seg r (e.val + 1) ≠ PoolPlan.seg r e.val then 1 else 0)
  valid : ∀ e : Fin 279, T (cell 4 e) = BitVec.ofNat 32 (if e.val < off r 79 then 1 else 0)

set_option maxRecDepth 100000 in
/-- The host lines compute the schedule. -/
theorem tab_words (h : Rows (below (batchOf m))) : Words (tab m 0) (below (batchOf m)) := by
  have hV : tab m 0 = tableLines (pointLines (StableHlo.after hostOps0_6 (StableHlo.after hostOps0_5 (endLines (StableHlo.after hostOps0_1
      (StableHlo.after hostOps0 (fun b => m ((0 : Dev nD), b)))))))) (Proc.devRef .tc main_v70) :=
    congrFun (entry_lines m 0) (Proc.devRef .tc main_v70)
  generalize hV0 : (fun b => m ((0 : Dev nD), b) : Valuation τ sig (Elt F)) = V0 at hV
  have hb : V0 (Proc.devRef .tc main_arg1) = batchOf m := by rw [← hV0]
  obtain ⟨a10, a11, ac⟩ := read_rows V0
  rw [hb] at a10 a11
  generalize StableHlo.after hostOps0 V0 = V1 at hV a10 a11 ac
  obtain ⟨b12, b10, b11⟩ := read_starts V1
  generalize StableHlo.after hostOps0_1 V1 = V2 at hV b12 b10 b11
  obtain ⟨c17, c12⟩ := read_ends V2
  generalize endLines V2 = V3 at hV c17 c12
  obtain ⟨d20, d12, d17⟩ := read_counts V3
  generalize StableHlo.after hostOps0_5 V3 = V4 at hV d20 d12 d17
  obtain ⟨e21, e20, e12, e17⟩ := read_sums V4
  generalize StableHlo.after hostOps0_6 V4 = V5 at hV e21 e20 e12 e17
  obtain ⟨f33, f35, f55⟩ := read_points V5
  generalize pointLines V5 = V6 at hV f33 f35 f55
  have hT := hV.trans (read_table V6)
  have lo : ∀ s : Fin 79, (V1 (Proc.devRef .tc main_v10) : IVec S79 32) (ix1 s) = BitVec.ofNat 32 (below (batchOf m) s.val) := fun s => by
    rw [a10]
    refine (slice1 0 _ slices_S80_S79_0 s (by have := s.isLt; omega)).trans ((rowStarts_word _ _).trans ?_)
    show BitVec.ofNat 32 (below _ (0 + s.val)) = _
    rw [Nat.zero_add]
  have hi : ∀ s : Fin 79, (V1 (Proc.devRef .tc main_v11) : IVec S79 32) (ix1 s) = BitVec.ofNat 32 (below (batchOf m) (s.val + 1)) := fun s => by
    rw [a11]
    refine (slice1 1 _ slices_S80_S79_1 s (by have := s.isLt; omega)).trans ((rowStarts_word _ _).trans ?_)
    show BitVec.ofNat 32 (below _ (1 + s.val)) = _
    rw [Nat.add_comm]
  have hd : (V1 (Proc.devRef .tc main_c_1) : IVec S_ 32) ValueIdx.ix0 = 1600#32 := by rw [ac]; rfl
  have st : ∀ s : Fin 79, (V5 (Proc.devRef .tc main_v12) : IVec S79 32) (ix1 s) = BitVec.ofNat 32 (t0 (below (batchOf m)) s.val) := fun s => by
    rw [e12, d12, c12, b12]
    exact starts_word h _ _ lo hd s
  have en : ∀ s : Fin 79, (V5 (Proc.devRef .tc main_v17) : IVec S79 32) (ix1 s) = BitVec.ofNat 32 (t1 (below (batchOf m)) s.val) := fun s => by
    rw [e17, d17, c17, b12, b10, b11]
    exact ends_word h _ _ _ lo hi hd s
  have ct : ∀ s : Fin 79, (V5 (Proc.devRef .tc main_v20) : IVec S79 32) (ix1 s) = BitVec.ofNat 32 (cnt (below (batchOf m)) s.val) := fun s => by
    rw [e20, d20, c12, c17, b12, b10, b11]
    exact counts_word h _ _ _ lo hi hd s
  have cu : ∀ s : Fin 79, (V5 (Proc.devRef .tc main_v21) : IVec S79 32) (ix1 s) = BitVec.ofNat 32 (off (below (batchOf m)) (s.val + 1)) := fun s => by
    rw [e21]
    rw [e20] at ct
    exact sums_word _ ct _ rfl s
  have sg : ∀ e : Fin 279, (V6 (Proc.devRef .tc main_v35) : IVec S279 32) (ix1 e) = BitVec.ofNat 32 (seg (below (batchOf m)) e.val) := fun e => by
    rw [f35]; exact segs_word h _ cu e
  have tl : ∀ e : Fin 279, (V6 (Proc.devRef .tc main_v55) : IVec S279 32) (ix1 e) = BitVec.ofNat 32 (tile (below (batchOf m)) e.val) := fun e => by
    rw [f55]; exact tiles_word h _ _ _ _ cu ct st en e
  have vd : ∀ e : Fin 279, (V6 (Proc.devRef .tc main_v33) : IVec S279 1) (ix1 e) = BitVec.ofBool (decide (e.val < off (below (batchOf m)) 79)) := fun e => by
    rw [f33]; exact valids_word h _ cu e
  refine ⟨fun e => ?_, fun e => ?_, fun e => ?_, fun e => ?_, fun e => ?_⟩
  · exact (congrFun hT (cell 0 e)).trans ((table_at _ _ _ 0 e _ rfl).trans (tl e))
  · exact (congrFun hT (cell 1 e)).trans ((table_at _ _ _ 1 e _ rfl).trans (sg e))
  · refine (congrFun hT (cell 2 e)).trans ((table_at _ _ _ 2 e _ rfl).trans ?_)
    rw [extui_at, firsts_word _ sg e, setWidth_ofBool]
  · refine (congrFun hT (cell 3 e)).trans ((table_at _ _ _ 3 e _ rfl).trans ?_)
    rw [extui_at, lasts_word _ sg e, setWidth_ofBool]
  · refine (congrFun hT (cell 4 e)).trans ((table_at _ _ _ 4 e _ rfl).trans ?_)
    rw [extui_at, vd e, setWidth_ofBool]

/-- Such a table is a schedule the pass accepts. -/
theorem Words.sched {T : S5x279.Idx → BitVec 32} {r : ℕ → ℕ} (w : Words T r) (h : Rows r) : Sched T where
  tile_le e := by
    have := tile_le h e.val
    rw [w.tile e, BitVec.toNat_ofNat]; omega
  seg_le e := by
    have := seg_le (r := r) e.val
    rw [w.seg e, BitVec.toNat_ofNat]; omega
  start := ⟨(w.valid 0).trans (by rw [if_pos (show (0 : Fin 279).val < off r 79 from off_pos)]), (w.first 0).trans (congrArg (BitVec.ofNat 32) (if_pos (Or.inl rfl)))⟩
  turn n hn hne := by
    have hne' : PoolPlan.seg r (n + 1) ≠ PoolPlan.seg r n := fun e => hne (by rw [w.seg, w.seg]; exact congrArg _ e)
    exact ⟨(w.valid _).trans (congrArg (BitVec.ofNat 32) (if_pos (lt_of_turn hne'))), (w.first _).trans (congrArg (BitVec.ofNat 32) (if_pos (Or.inr hne')))⟩

end Cert.PoolWords

end
-- ==== Proof.Payload.lean ====
/-
  What the kernel's stores hold, read at an entry over the extended reals: the weight of a row of
  the tile in a lane, a tile's weighted sums and its sums of weights, and the quotient taken at the
  end of a block.
-/
module

public import proofs.«01_k».proof.Proof.Gen.KernelIdeal.Skeleton
public import Idealize.ShloMosaic.Lib.MatmulPlain
public import Idealize.ShloMosaic.Lib.Pipeline.Value
public import Idealize.ShloMosaic.Lib.Routing.Ops
public import Idealize.ShloMosaic.Lib.WordCmp

@[expose] public section

noncomputable section

namespace Cert.PoolPayload

open Cert.KernelIdeal Cert.KernelIdeal.Gen
open Idealize.ShloMosaic Idealize.ShloMosaic.ValueIdx Idealize.ShloMosaic.Routing Idealize.ShloMosaic.WordCmp
open scoped BigOperators

/-- A product of two arrays over the first axis of both, read at an entry. -/
theorem matmul_first_apply (prec : Option ContractPrecision) (lhs rhs : FVec Ideal S1600x128 .f32) (r c : Fin 128) :
    matmul dot_S1600x128_S1600x128_S128x128_0_0_1_1_n_n prec lhs rhs (constant S128x128 .f32 0x00000000#32) (ix2 r c)
      = ∑ k : Fin 1600, (lhs (ix2 k r) * rhs (ix2 k c) : EReal) := by
  have hr : (dot_S1600x128_S1600x128_S128x128_0_0_1_1_n_n).contr.rank = 1 := rfl
  have hs : (dot_S1600x128_S1600x128_S128x128_0_0_1_1_n_n).contr.size ⟨0, by rw [hr]; exact Nat.one_pos⟩ = 1600 := rfl
  simp only [matmul]
  rw [Ideal.matmul_constant_zero_apply, ← Equiv.sum_comp (contrEquiv1 _ 1600 hr hs).symm]
  refine Finset.sum_congr rfl fun k _ => ?_
  have hk := contrEquiv1_symm_val _ 1600 hr hs k
  refine congrArg₂ (· * ·) (congrArg lhs ?_) (congrArg rhs ?_)
  · funext a; apply Fin.ext
    match a with
    | ⟨0, _⟩ => exact hk
    | ⟨1, _⟩ => rfl
  · funext a; apply Fin.ext
    match a with
    | ⟨0, _⟩ => exact hk
    | ⟨1, _⟩ => rfl

/-- The score of row `r` of a tile. -/
def tileScore (ht : S1600x128.Idx → EReal) (w1 : S128x64.Idx → EReal) (b1 : S1x64.Idx → EReal) (w2 : S64x8.Idx → EReal) (r : Fin 1600) : EReal :=
  ∑ k : Fin 64, Ideal.tanh (∑ j : Fin 128, ht (ix2 r j) * w1 (ix2 j k) + b1 (ix2 0 k)) * w2 (ix2 k 0)

section
variable (v1 : BitVec 32) (ht : FVec Ideal S1600x128 .f32) (w1 : FVec Ideal S128x64 .f32) (b1 : FVec Ideal S1x64 .f32)
  (w2 : FVec Ideal S64x8 .f32) (bt : IVec S1x1x1600 32)

/-- The hidden layer of the scores at an entry. -/
theorem hidden_apply (r : Fin 1600) (k : Fin 64) :
    (addf (matmul dot_S1600x128_S128x64_S1600x64_1_0_0_1_n_n none ht w1 (constant S1600x64 .f32 0x00000000#32))
      (broadcastTo S1600x64 b1 broadcasts_S1x64_S1600x64) : FVec Ideal S1600x64 .f32) (ix2 r k)
      = (∑ j : Fin 128, ht (ix2 r j) * w1 (ix2 j k) + b1 (ix2 0 k) : EReal) := by
  show (matmul dot_S1600x128_S128x64_S1600x64_1_0_0_1_n_n none ht w1 (constant S1600x64 .f32 0x00000000#32) (ix2 r k) + broadcastTo S1600x64 b1 broadcasts_S1x64_S1600x64 (ix2 r k) : EReal) = _
  refine congrArg₂ (· + ·) ?_ ?_
  · refine (Ideal.matmul_plain_apply (M := 1600) (K := 128) (N := 64) none ht w1 (constant S1600x64 .f32 0x00000000#32) r k).trans ?_
    exact (congrArg (· + _) Ideal.ofBits_zero_f32).trans (zero_add _)
  · refine broadcastTo_apply _ _ _ _ fun a => ?_
    match a with
    | ⟨0, _⟩ => rfl
    | ⟨1, _⟩ => rfl

/-- The weight of row `r` of the tile in lane `l`: the exponential of its score where the row's id is the lane's, else nothing. -/
theorem pay1_apply (r : Fin 1600) (l : Fin 128) :
    (k0_pay1 (F := Ideal) v1 ht w1 b1 w2 bt (ix2 r l) : EReal)
      = if BitVec.ofNat 32 l.val = bt (ix3 0 0 r) - v1 * 128#32 then Ideal.exp (tileScore ht w1 b1 w2 r) else 0 := by
  unfold k0_pay1
  simp only [shapeCast_self]
  have hid : (subi (transpose S1600x1 [1, 0] (shapeCast S1x1600 bt shapeCasts_S1x1x1600_S1x1600) transposes_S1x1600_p1_0_S1600x1)
      (broadcast S1600x1 (Scalar.muli v1 128#32)) : IVec S1600x1 32) (ix2 r 0) = bt (ix3 0 0 r) - v1 * 128#32 := by
    refine congrArg (· - v1 * 128#32) ?_
    refine (transpose_apply _ _ _ _ (ix2 (0 : Fin 1) r) fun a => ?_).trans (shapeCast_apply _ _ _ _ ?_)
    · match a with
      | ⟨0, _⟩ => rfl
      | ⟨1, _⟩ => rfl
    · rw [Shape.rowMajor_val_three, Shape.rowMajor_val_two]
      rfl
  have hcol : ∀ {α : Type} (v : S1600x1.Idx → α), broadcastTo S1600x128 v broadcasts_S1600x1_S1600x128 (ix2 r l) = v (ix2 r 0) := fun v => by
    refine broadcastTo_apply _ _ _ _ fun a => ?_
    match a with
    | ⟨0, _⟩ => rfl
    | ⟨1, _⟩ => rfl
  rw [select_at, cmpi_at, hcol, hcol, hid, cmpi_eq_eq, select_decide]
  have hi : iota .tc S1600x128 32 [1] iota_S1600x128_d1_w32 (ix2 r l) = BitVec.ofNat 32 l.val := by
    show BitVec.ofNat 32 (0 * 128 + l.val) = _
    rw [Nat.zero_mul, Nat.zero_add]
  refine if_congr (by rw [hi]) ?_ Ideal.ofBits_zero_f32
  refine congrArg Ideal.exp ?_
  refine (extractStridedSlice_apply _ _ _ _ (ix2 r (0 : Fin 8)) fun a => ?_).trans ?_
  · match a with
    | ⟨0, _⟩ => exact (Nat.zero_add _).symm
    | ⟨1, _⟩ => rfl
  refine (Ideal.matmul_plain_apply (M := 1600) (K := 64) (N := 8) none _ w2 (constant S1600x8 .f32 0x00000000#32) r 0).trans ?_
  refine ((congrArg (· + _) Ideal.ofBits_zero_f32).trans (zero_add _)).trans ?_
  refine Finset.sum_congr rfl fun k _ => congrArg (· * w2 (ix2 k 0)) (congrArg Ideal.tanh (hidden_apply ht w1 b1 r k))

/-- A tile's weighted sum in lane `l` and column `q`. -/
theorem pay2_apply (l q : Fin 128) :
    (k0_pay2 (F := Ideal) v1 ht w1 b1 w2 bt (ix2 l q) : EReal)
      = ∑ r : Fin 1600, (if BitVec.ofNat 32 l.val = bt (ix3 0 0 r) - v1 * 128#32 then Ideal.exp (tileScore ht w1 b1 w2 r) else 0) * ht (ix2 r q) := by
  unfold k0_pay2
  refine (matmul_first_apply none _ ht l q).trans (Finset.sum_congr rfl fun r _ => ?_)
  rw [pay1_apply]

/-- A tile's sum of weights in lane `l`. -/
theorem pay3_apply (l : Fin 128) :
    (k0_pay3 (F := Ideal) v1 ht w1 b1 w2 bt (ix2 0 l) : EReal)
      = ∑ r : Fin 1600, if BitVec.ofNat 32 l.val = bt (ix3 0 0 r) - v1 * 128#32 then Ideal.exp (tileScore ht w1 b1 w2 r) else 0 := by
  unfold k0_pay3
  refine (cast12 (a := 1) (b := 128) (n := 128) _ _ 0 l l (by simp)).trans ?_
  refine (Ideal.multiReduction_add_single _ _ reduces_S1600x128_S128 _ _ (ix1 l)).trans (Finset.sum_congr rfl fun r _ => ?_)
  refine Eq.trans (congrArg _ ?_) (pay1_apply v1 ht w1 b1 w2 bt r l)
  funext a; apply Fin.ext
  match a with
  | ⟨0, _⟩ => rfl
  | ⟨1, _⟩ => rfl

/-- The sum of weights as it is stored at a block's first point. -/
theorem pay4_apply (l : Fin 128) :
    (k0_pay4 (F := Ideal) v1 ht w1 b1 w2 bt (ix2 0 l) : EReal) = k0_pay3 (F := Ideal) v1 ht w1 b1 w2 bt (ix2 0 l) := by
  unfold k0_pay4; rw [shapeCast_self]

/-- The weighted sums, added to what the block held. -/
theorem pay5_apply (o : FVec Ideal S128x128 .f32) (l q : Fin 128) :
    (k0_pay5 (F := Ideal) v1 ht w1 b1 w2 bt o (ix2 l q) : EReal) = (o (ix2 l q) : EReal) + k0_pay2 (F := Ideal) v1 ht w1 b1 w2 bt (ix2 l q) := by
  unfold k0_pay5; rw [shapeCast_self]; rfl

/-- The sums of weights, added to what the row held. -/
theorem pay6_apply (d : FVec Ideal S1x128 .f32) (l : Fin 128) :
    (k0_pay6 (F := Ideal) v1 ht w1 b1 w2 bt d (ix2 0 l) : EReal) = (d (ix2 0 l) : EReal) + k0_pay3 (F := Ideal) v1 ht w1 b1 w2 bt (ix2 0 l) := by
  unfold k0_pay6; rw [shapeCast_self]; rfl

/-- The quotient taken at the end of a block: nothing in a lane whose weights come to nothing. -/
theorem pay7_apply (d : FVec Ideal S1x128 .f32) (o : FVec Ideal S128x128 .f32) (l q : Fin 128) :
    (k0_pay7 (F := Ideal) d o (ix2 l q) : EReal) = if 0 < (d (ix2 0 l) : EReal) then Ideal.div (o (ix2 l q)) (d (ix2 0 l)) else 0 := by
  have hcol : ∀ {α : Type} (v : S128x1.Idx → α), broadcastTo S128x128 v broadcasts_S128x1_S128x128 (ix2 l q) = v (ix2 l 0) := fun v => by
    refine broadcastTo_apply _ _ _ _ fun a => ?_
    match a with
    | ⟨0, _⟩ => rfl
    | ⟨1, _⟩ => rfl
  have ht : transpose S128x1 [1, 0] d transposes_S1x128_p1_0_S128x1 (ix2 l 0) = d (ix2 0 l) := by
    refine transpose_apply _ _ _ _ (ix2 (0 : Fin 1) l) fun a => ?_
    match a with
    | ⟨0, _⟩ => rfl
    | ⟨1, _⟩ => rfl
  unfold k0_pay7
  simp only [shapeCast_self]
  rw [select_at, hcol]
  have hc : (cmpf .ogt (transpose S128x1 [1, 0] d transposes_S1x128_p1_0_S128x1) (broadcast S128x1 (Scalar.ofBits .f32 0x00000000#32)) : IVec S128x1 1) (ix2 l 0)
      = BitVec.ofBool (decide (0 < (d (ix2 0 l) : EReal))) := by
    show (Ideal.cmp .ogt (transpose S128x1 [1, 0] d transposes_S1x128_p1_0_S128x1 (ix2 l 0)) (Ideal.ofBits .f32 0x00000000#32) : BitVec 1) = _
    rw [ht, Ideal.ofBits_zero_f32]
    rfl
  erw [hc]
  rw [select_decide]
  refine if_congr Iff.rfl ?_ Ideal.ofBits_zero_f32
  refine congrArg (Ideal.div (o (ix2 l q))) ((hcol _).trans ht)
end

end Cert.PoolPayload

end
-- ==== Proof.Accum.lean ====
/-
  Sums accumulated along the plan. Two quantities start afresh at the first point of every block,
  take one summand per tile of the block, and the first is replaced by a function of both at the
  block's last point; what that leaves is the function of the two sums over the block's tiles.
-/
module

public import proofs.«01_k».proof.Proof.Plan
public import Mathlib.Algebra.BigOperators.Intervals
public import Mathlib.Data.EReal.Basic

@[expose] public section

namespace Cert.PoolPlan

open scoped BigOperators

variable {r : ℕ → ℕ}

/-- One step of an accumulation: a summand taken at a point of a block, afresh at its first point. -/
noncomputable def take (r : ℕ → ℕ) (f : ℕ → ℕ → EReal) (n : ℕ) (x : EReal) : EReal :=
  if n < off r 79 then (if n = 0 ∨ seg r n ≠ seg r (n - 1) then f (seg r n) (tile r n) else x + f (seg r n) (tile r n)) else x

/-- The sum over the tiles of block `s`. -/
noncomputable def overTiles (r : ℕ → ℕ) (f : ℕ → ℕ → EReal) (s : ℕ) : EReal := ∑ t ∈ Finset.Ico (t0 r s) (t1 r s + 1), f s t

/-- At the first point of a block the accumulation starts with the first tile's summand, -/
theorem take_first (f : ℕ → ℕ → EReal) (s : ℕ) (hs : s ≤ 78) (x : EReal) : take r f (off r s) x = f s (t0 r s) := by
  have h1 : off r s < off r (s + 1) := off_strictMono (Nat.lt_succ_self s)
  have h2 : off r (s + 1) ≤ off r 79 := off_strictMono.monotone (by omega)
  have e : seg r (off r s) = s := seg_of_mem hs (le_refl _) h1
  have hf : off r s = 0 ∨ seg r (off r s) ≠ seg r (off r s - 1) := by
    cases s with
    | zero => exact .inl rfl
    | succ s =>
      have h3 : off r s < off r (s + 1) := off_strictMono (Nat.lt_succ_self s)
      right
      rw [e, seg_of_mem (r := r) (s := s) (by omega) (by omega) (by omega)]
      omega
  unfold take
  rw [if_pos (lt_of_lt_of_le h1 h2), if_pos hf, e, tile_of_mem hs (le_refl _) h1, Nat.sub_self, Nat.add_zero]

/-- and at every other point of it the point's tile is added. -/
theorem take_next (f : ℕ → ℕ → EReal) (s k : ℕ) (hs : s ≤ 78) (hk : k + 1 < cnt r s) (x : EReal) :
    take r f (off r s + (k + 1)) x = x + f s (t0 r s + (k + 1)) := by
  have h1 : off r (s + 1) = off r s + cnt r s := off_succ s
  have h2 : off r (s + 1) ≤ off r 79 := off_strictMono.monotone (by omega)
  have e : seg r (off r s + (k + 1)) = s := seg_of_mem hs (by omega) (by omega)
  have e' : seg r (off r s + (k + 1) - 1) = s := seg_of_mem hs (by omega) (by omega)
  unfold take
  rw [if_pos (by omega), if_neg (by rw [e, e']; omega), e, tile_of_mem hs (by omega) (by omega), Nat.add_sub_cancel_left]

/-- After the last block nothing is added. -/
theorem take_past (f : ℕ → ℕ → EReal) (n : ℕ) (hn : off r 79 ≤ n) (x : EReal) : take r f n x = x := by
  unfold take
  rw [if_neg (by omega)]

variable (h : Rows r) (f g : ℕ → ℕ → EReal) (quot : EReal → EReal → EReal) (o d : ℕ → EReal)
  (hd : ∀ n, n < 279 → d (n + 1) = take r g n (d n))
  (ho : ∀ n, n < 279 → o (n + 1) = if n = 278 ∨ seg r (n + 1) ≠ seg r n then quot (take r f n (o n)) (d (n + 1)) else take r f n (o n))
include h hd ho

/-- What the two quantities have taken after `k + 1` points of block `s`. -/
theorem sums_within (s : ℕ) (hs : s ≤ 78) : ∀ k, k < cnt r s →
    d (off r s + k + 1) = ∑ t ∈ Finset.Ico (t0 r s) (t0 r s + k + 1), g s t
    ∧ take r f (off r s + k) (o (off r s + k)) = ∑ t ∈ Finset.Ico (t0 r s) (t0 r s + k + 1), f s t := by
  have h1 : off r (s + 1) = off r s + cnt r s := off_succ s
  have h2 : off r (s + 1) ≤ off r 79 := off_strictMono.monotone (by omega)
  have h3 := h.off_last
  intro k
  induction k with
  | zero =>
    intro _
    have hc := cnt_pos (r := r) s
    simp only [Nat.add_zero]
    rw [hd _ (by omega), take_first g s hs, take_first f s hs, Nat.Ico_succ_singleton, Finset.sum_singleton, Finset.sum_singleton]
    exact ⟨rfl, rfl⟩
  | succ k ih =>
    intro hk
    obtain ⟨e1, e2⟩ := ih (by omega)
    have ho' : o (off r s + k + 1) = take r f (off r s + k) (o (off r s + k)) := by
      rw [ho _ (by omega), if_neg]
      rw [seg_of_mem (r := r) (s := s) hs (by omega) (by omega), seg_of_mem (r := r) (s := s) hs (by omega) (by omega)]
      omega
    rw [hd _ (by omega), take_next g s k hs hk, take_next f s k hs hk]
    rw [← Nat.add_assoc (off r s) k 1, e1, ho', e2, ← Nat.add_assoc (t0 r s) k 1]
    exact ⟨(Finset.sum_Ico_succ_top (a := t0 r s) (b := t0 r s + k + 1) (by omega) _).symm, (Finset.sum_Ico_succ_top (a := t0 r s) (b := t0 r s + k + 1) (by omega) _).symm⟩

/-- At a block's last valid point both sums are over all of its tiles. -/
theorem sums_end (s : ℕ) (hs : s ≤ 78) (n : ℕ) (hn : n + 1 = off r (s + 1)) : d (n + 1) = overTiles r g s ∧ take r f n (o n) = overTiles r f s := by
  have h1 : off r (s + 1) = off r s + cnt r s := off_succ s
  have hc := cnt_pos (r := r) s
  obtain ⟨e1, e2⟩ := sums_within h f g quot o d hd ho s hs (cnt r s - 1) (by omega)
  have en : off r s + (cnt r s - 1) = n := by omega
  have et : t0 r s + (cnt r s - 1) + 1 = t1 r s + 1 := by
    have := h.t0_le_t1 s
    unfold cnt
    omega
  rw [en, et] at e1 e2
  exact ⟨e1, e2⟩

/-- After the last block the sums stay what they are. -/
theorem sums_past : ∀ j, off r 79 + j ≤ 278 → d (off r 79 + j) = overTiles r g 78 ∧ o (off r 79 + j) = overTiles r f 78 := by
  have h3 := h.off_last
  have hp := off_pos (r := r)
  have h7 : off r 78 < off r 79 := off_strictMono (by omega)
  intro j
  induction j with
  | zero =>
    intro _
    obtain ⟨n, hn⟩ : ∃ n, n + 1 = off r 79 := ⟨off r 79 - 1, by omega⟩
    obtain ⟨e1, e2⟩ := sums_end h f g quot o d hd ho 78 (le_refl _) n hn
    rw [Nat.add_zero, ← hn]
    refine ⟨e1, ?_⟩
    rw [ho n (by omega), if_neg, e2]
    rw [hn, seg_of_past (le_refl _), seg_of_mem (r := r) (s := 78) (le_refl _) (by omega) (by show n < off r 79; omega)]
    omega
  | succ j ih =>
    intro hj
    obtain ⟨e1, e2⟩ := ih (by omega)
    rw [← Nat.add_assoc, hd _ (by omega), ho _ (by omega), if_neg, take_past g _ (by omega), take_past f _ (by omega)]
    · exact ⟨e1, e2⟩
    · rw [seg_of_past (by omega), seg_of_past (by omega)]
      omega

/-- THE ACCUMULATION: the last point of a block leaves the function of the two sums over its tiles. -/
theorem sums_last (n : ℕ) (hn : n < 279) (hl : n = 278 ∨ seg r (n + 1) ≠ seg r n) :
    o (n + 1) = quot (overTiles r f (seg r n)) (overTiles r g (seg r n)) := by
  have h3 := h.off_last
  rw [ho n hn, if_pos hl]
  by_cases hv : n < off r 79
  · obtain ⟨s, hs, h1, h2⟩ := exists_block n hv
    have e : seg r n = s := seg_of_mem hs h1 h2
    have hend : n + 1 = off r (s + 1) := by
      by_contra hne
      have e' : seg r (n + 1) = s := seg_of_mem hs (by omega) (by omega)
      rcases hl with hl | hl
      · omega
      · exact hl (e'.trans e.symm)
    obtain ⟨e1, e2⟩ := sums_end h f g quot o d hd ho s hs n hend
    rw [e1, e2, e]
  · have e : seg r n = 78 := seg_of_past (by omega)
    obtain ⟨e1, e2⟩ := sums_past h f g quot o d hd ho (n - off r 79) (by omega)
    rw [Nat.add_sub_cancel' (by omega)] at e1 e2
    rw [hd n hn, take_past g n (by omega), take_past f n (by omega), e1, e2, e]

end Cert.PoolPlan

end
-- ==== Proof.Algebra.lean ====
/-
  The arithmetic of the pooling over the extended reals: a weighted mean does not change when every
  weight is multiplied by the same positive number, and the weights may be divided by their total
  before or after the sum.
-/
module

public import Idealize.ShloMosaic.PureOps.Ideal.Laws
public import Idealize.ShloMosaic.Lib.IdealHost

@[expose] public section

namespace Cert.PoolMath

open Idealize.ShloMosaic
open scoped BigOperators

variable {ι : Type}

/-- A number that is not infinite is a real one. -/
theorem real_of_lt_top {x : EReal} (h : max x (-x) < ⊤) : ∃ r : ℝ, x = (r : EReal) := by
  induction x using EReal.rec with
  | bot => simp at h
  | coe r => exact ⟨r, rfl⟩
  | top => simp at h

/-- A hyperbolic tangent is a real number. -/
theorem tanh_real (x : EReal) : ∃ r : ℝ, Ideal.tanh x = (r : EReal) := by
  induction x using EReal.rec with
  | bot => exact ⟨-1, by simp only [Ideal.tanh_bot, EReal.coe_neg, EReal.coe_one]⟩
  | coe r => exact ⟨Real.tanh r, rfl⟩
  | top => exact ⟨1, by simp only [Ideal.tanh_top, EReal.coe_one]⟩

/-- A finite sum of real numbers is the real number that is their sum. -/
theorem coe_sum (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum of real numbers is real. -/
theorem sum_real (S : Finset ι) (f : ι → EReal) (h : ∀ i, ∃ r : ℝ, f i = (r : EReal)) : ∃ r : ℝ, ∑ i ∈ S, f i = (r : EReal) := by
  choose g hg using h
  exact ⟨∑ i ∈ S, g i, by rw [coe_sum]; exact Finset.sum_congr rfl fun i _ => hg i⟩

/-- A positive real factor may be taken into a sum. -/
theorem mul_sum (a : ℝ) (ha : 0 ≤ a) (S : Finset ι) (f : ι → EReal) : (a : EReal) * ∑ i ∈ S, f i = ∑ i ∈ S, (a : EReal) * f i := by
  classical
  induction S using Finset.induction_on with
  | empty => simp
  | insert i S hi ih =>
    rw [Finset.sum_insert hi, Finset.sum_insert hi, ← ih]
    exact EReal.left_distrib_of_nonneg_of_ne_top (EReal.coe_nonneg.mpr ha) (EReal.coe_ne_top a) _ _

/-- The mean of `h` over the positions of `S`, weighted by `a`: nothing when the weights come to nothing. -/
noncomputable def mean (S : Finset ι) (a : ι → EReal) (h : ι → EReal) : EReal :=
  if 0 < ∑ i ∈ S, a i then Ideal.div (∑ i ∈ S, a i * h i) (∑ i ∈ S, a i) else 0

/-- The mean with exponential weights is the sum of `h` times the normalized weights, whatever number the exponents are moved by. -/
theorem mean_exp (S : Finset ι) (u : ι → ℝ) (q : ℝ) (h : ι → EReal) :
    mean S (fun i => Ideal.exp (u i : EReal)) h
      = ∑ i ∈ S, h i * Ideal.div (Ideal.exp ((u i + q : ℝ) : EReal)) (∑ j ∈ S, Ideal.exp ((u j + q : ℝ) : EReal)) := by
  have hs : ∀ v : ι → ℝ, ∑ i ∈ S, Ideal.exp (v i : EReal) = ((∑ i ∈ S, Real.exp (v i) : ℝ) : EReal) := fun v => by
    rw [coe_sum]; exact Finset.sum_congr rfl fun i _ => Ideal.exp_coe _
  unfold mean
  rcases S.eq_empty_or_nonempty with rfl | hS
  · simp
  have hD : 0 < ∑ i ∈ S, Real.exp (u i) := Finset.sum_pos (fun i _ => Real.exp_pos _) hS
  have hD' : ∑ i ∈ S, Real.exp (u i + q) = Real.exp q * ∑ i ∈ S, Real.exp (u i) := by
    rw [Finset.mul_sum]
    exact Finset.sum_congr rfl fun i _ => by rw [Real.exp_add, mul_comm]
  rw [if_pos (by rw [hs]; exact_mod_cast hD), hs, hs (fun i => u i + q), Ideal.div_coe hD.ne', mul_comm, mul_sum _ (by positivity)]
  refine Finset.sum_congr rfl fun i _ => ?_
  dsimp only
  rw [Ideal.exp_coe, Ideal.exp_coe, Ideal.div_coe (by rw [hD']; positivity), hD', ← mul_assoc, mul_comm (h i), ← EReal.coe_mul, ← EReal.coe_mul]
  congr 2
  rw [Real.exp_add]
  have := Real.exp_pos q
  field_simp

/-- A sum over consecutive runs of `k` positions is the sum over all the positions. -/
theorem sum_runs (k : ℕ) (f : ℕ → EReal) (n : ℕ) :
    ∑ t ∈ Finset.range n, ∑ x ∈ Finset.range k, f (k * t + x) = ∑ i ∈ Finset.range (k * n), f i := by
  induction n with
  | zero => simp
  | succ n ih => rw [Finset.sum_range_succ, ih, Nat.mul_succ, Finset.sum_range_add]

end Cert.PoolMath

end
-- ==== Proof.Reference.lean ====
/-
  The reference read at an entry over the extended reals: at a segment and a column it is the mean
  of the column over the segment's rows, weighted by the exponentials of the rows' scores.
-/
module

public import proofs.«01_k».proof.Proof.Algebra
public import proofs.«01_k».proof.Proof.Gen.ReferenceIdeal.Run
public import Idealize.ShloMosaic.Lib.MatmulPlain
public import Idealize.ShloMosaic.Lib.Pipeline.Value
public import Idealize.ShloMosaic.Lib.WordCmp
public import Idealize.ShloMosaic.Lib.Routing.Ops
public import Idealize.ShloMosaic.Lib.Routing.OpsSet
public import Idealize.ShloMosaic.Lib.Routing.OpsPair

@[expose] public section

noncomputable section

namespace Cert.PoolReference

open Cert.ReferenceIdeal Cert.ReferenceIdeal.Gen Cert.PoolMath
open Idealize.ShloMosaic Idealize.ShloMosaic.TcCoe Idealize.ShloMosaic.ValueIdx Idealize.ShloMosaic.Routing Idealize.ShloMosaic.WordCmp
open scoped BigOperators

variable (h : FVec Ideal S320000x128 .f32) (b : IVec S320000 32) (w1 : FVec Ideal S128x64 .f32) (b1 : FVec Ideal S64 .f32)
  (w2 : FVec Ideal S64x1 .f32) (b2 : FVec Ideal S1 .f32)

/-! ### The reference's stages -/

/-- The rows' scores. -/
def scores : FVec Ideal S320000 .f32 :=
  shapeCast _ (addf (Host.dotGeneral dot_S320000x64_S64x1_S320000x1_1_0_0_1_n_n none (Host.tanh (addf (Host.dotGeneral dot_S320000x128_S128x64_S320000x64_1_0_0_1_n_n none h w1) (broadcastInDim S320000x64 ![0, 1] bcast_S1x64_S320000x64_0_1 (broadcastInDim S1x64 ![1] bcast_S64_S1x64_1 b1)))) w2) (broadcastInDim S320000x1 ![0, 1] bcast_S1x1_S320000x1_0_1 (broadcastInDim S1x1 ![1] bcast_S1_S1x1_1 b2))) shapeCasts_S320000x1_S320000

/-- The segments' greatest scores. -/
def top (s : FVec Ideal S320000 .f32) : FVec Ideal S10000 .f32 :=
  Host.reduce FloatOps.maximumf (select (cmpi .eq (broadcastInDim S10000x320000 ![0, 1] bcast_S10000x1_S10000x320000_0_1 (broadcastInDim S10000x1 ![0] bcast_S10000_S10000x1_0 (iotaInDim S10000 32 0))) (broadcastInDim S10000x320000 ![0, 1] bcast_S1x320000_S10000x320000_0_1 (broadcastInDim S1x320000 ![1] bcast_S320000_S1x320000_1 b))) (broadcastInDim S10000x320000 ![0, 1] bcast_S1x320000_S10000x320000_0_1 (broadcastInDim S1x320000 ![1] bcast_S320000_S1x320000_1 s)) (broadcastInDim S10000x320000 ![] bcast_S_S10000x320000 (id (constant S_ .f32 0xFF800000#32)))) (constant S_ .f32 0xFF800000#32) reducesTo_S10000x320000_S10000_d1 h_S_

/-- An array with 0 where it is not finite. -/
def finite (x : FVec Ideal S10000 .f32) : FVec Ideal S10000 .f32 :=
  select (cmpf .olt (Host.absf x) (broadcastInDim S10000 ![] bcast_S_S10000 (constant S_ .f32 0x7F800000#32))) x (broadcastInDim S10000 ![] bcast_S_S10000 (id (constant S_ .f32 0x00000000#32)))

/-- The ids as they index an array, one a row. -/
def wrapped : IVec S320000x1 32 :=
  broadcastInDim S320000x1 ![0] bcast_S320000_S320000x1_0 (select (cmpi .slt b (broadcastInDim S320000 ![] bcast_S_S320000 (constantI S_ 32 0#32))) (addi b (broadcastInDim S320000 ![] bcast_S_S320000 (constantI S_ 32 10000#32))) b)

/-- The ids, one a row. -/
def ids : IVec S320000x1 32 := broadcastInDim S320000x1 ![0] bcast_S320000_S320000x1_0 b

/-- An entry a segment, taken at every row's segment. -/
def take (x : FVec Ideal S10000 .f32) : FVec Ideal S320000 .f32 :=
  Host.gather gather_S10000_S320000x1_S320000_n_0_n_n_0_1_1 x (wrapped b)

/-- The exponentials of the scores moved by the segments' greatest. -/
def weights (s : FVec Ideal S320000 .f32) (x : FVec Ideal S10000 .f32) : FVec Ideal S320000 .f32 := Host.exp (subf s (take b x))

/-- The segments' sums. -/
def sums (e : FVec Ideal S320000 .f32) : FVec Ideal S10000 .f32 :=
  Host.scatterAdd scatter_S10000_S320000x1_S320000_n_0_0_1 (broadcastInDim S10000 ![] bcast_S_S10000 (constant S_ .f32 0x00000000#32)) (ids b) e

/-- The segments' sums of the rows, each multiplied by its normalized weight. -/
def pooled (e : FVec Ideal S320000 .f32) : FVec Ideal S10000x128 .f32 :=
  Host.scatterAdd scatter_S10000x128_S320000x1_S320000x128_1_0_0_1 (broadcastInDim S10000x128 ![] bcast_S_S10000x128 (constant S_ .f32 0x00000000#32)) (ids b) (mulf h (broadcastInDim S320000x128 ![0, 1] bcast_S320000x1_S320000x128_0_1 (broadcastInDim S320000x1 ![0] bcast_S320000_S320000x1_0 (Host.divf e (take b (sums b e))))))

/-- The reference's result is these stages composed. -/
theorem res_eq (m : (ℓ : Loc nD τ sig) → Buf (Elt Ideal) ℓ) (c : Dev nD) :
    Cert.ReferenceIdeal.Value.res_main_v48 m c
      = pooled (m ((c.tc : Thread nD τ).loc main_arg0)) (m ((c.tc : Thread nD τ).loc main_arg1))
        (weights (m ((c.tc : Thread nD τ).loc main_arg1))
          (scores (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
          (finite (top (m ((c.tc : Thread nD τ).loc main_arg1))
            (scores (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))))) := by
  unfold Cert.ReferenceIdeal.Value.res_main_v48 pooled sums weights take ids wrapped finite top scores
  rfl

/-! ### The scores -/

/-- The score of row `i` without the last bias. -/
def score (i : Fin 320000) : EReal :=
  ∑ k : Fin 64, Ideal.tanh (∑ j : Fin 128, h (ix2 i j) * w1 (ix2 j k) + b1 (ix1 k)) * w2 (ix2 k 0)

/-- A product over one axis of two arrays, as the host takes it, read at an entry. -/
theorem dot_first_apply (i : Fin 320000) (k : Fin 64) :
    (Host.dotGeneral dot_S320000x128_S128x64_S320000x64_1_0_0_1_n_n none h w1 (ix2 i k) : EReal) = ∑ j : Fin 128, h (ix2 i j) * w1 (ix2 j k) := by
  have hr : (dot_S320000x128_S128x64_S320000x64_1_0_0_1_n_n).contr.rank = 1 := rfl
  have hs : (dot_S320000x128_S128x64_S320000x64_1_0_0_1_n_n).contr.size ⟨0, by rw [hr]; exact Nat.one_pos⟩ = 128 := rfl
  simp only [Host.dotGeneral]
  rw [Ideal.dotGeneral_apply, ← Equiv.sum_comp (contrEquiv1 _ 128 hr hs).symm]
  refine Finset.sum_congr rfl fun j _ => ?_
  have hk := contrEquiv1_symm_val _ 128 hr hs j
  refine congrArg₂ (· * ·) (congrArg h ?_) (congrArg w1 ?_)
  · funext a; apply Fin.ext
    match a with
    | ⟨0, _⟩ => rfl
    | ⟨1, _⟩ => exact hk
  · funext a; apply Fin.ext
    match a with
    | ⟨0, _⟩ => exact hk
    | ⟨1, _⟩ => rfl

/-- The product with the second matrix, at a row. -/
theorem dot_last_apply (x : FVec Ideal S320000x64 .f32) (i : Fin 320000) :
    (Host.dotGeneral dot_S320000x64_S64x1_S320000x1_1_0_0_1_n_n none x w2 (ix2 i 0) : EReal) = ∑ k : Fin 64, x (ix2 i k) * w2 (ix2 k 0) := by
  have hr : (dot_S320000x64_S64x1_S320000x1_1_0_0_1_n_n).contr.rank = 1 := rfl
  have hs : (dot_S320000x64_S64x1_S320000x1_1_0_0_1_n_n).contr.size ⟨0, by rw [hr]; exact Nat.one_pos⟩ = 64 := rfl
  simp only [Host.dotGeneral]
  rw [Ideal.dotGeneral_apply, ← Equiv.sum_comp (contrEquiv1 _ 64 hr hs).symm]
  refine Finset.sum_congr rfl fun j _ => ?_
  have hk := contrEquiv1_symm_val _ 64 hr hs j
  refine congrArg₂ (· * ·) (congrArg x ?_) (congrArg w2 ?_)
  · funext a; apply Fin.ext
    match a with
    | ⟨0, _⟩ => rfl
    | ⟨1, _⟩ => exact hk
  · funext a; apply Fin.ext
    match a with
    | ⟨0, _⟩ => exact hk
    | ⟨1, _⟩ => rfl

/-- A row's score is the score without the bias, and the bias. -/
theorem scores_apply (i : Fin 320000) : (scores h w1 b1 w2 b2 (ix1 i) : EReal) = score h w1 b1 w2 i + b2 (ix1 0) := by
  unfold scores
  refine (cast21 (a := 320000) (b := 1) (n := 320000) _ _ i 0 i (by simp)).trans ?_
  refine congrArg₂ (· + ·) ?_ (bcCols _ _ b2 i 0)
  refine (dot_last_apply w2 _ i).trans (Finset.sum_congr rfl fun k _ => congrArg (· * w2 (ix2 k 0)) (congrArg Ideal.tanh ?_))
  exact congrArg₂ (· + ·) (dot_first_apply h w1 i k) (bcCols _ _ b1 i k)

/-! ### What the weights are moved by -/

/-- An array with 0 where it is not finite holds real numbers. -/
theorem finite_real (x : FVec Ideal S10000 .f32) (i : S10000.Idx) : ∃ r : ℝ, (finite x i : EReal) = (r : EReal) := by
  unfold finite
  rw [select_at]
  have hc : (cmpf .olt (Host.absf x) (broadcastInDim S10000 ![] bcast_S_S10000 (constant S_ .f32 0x7F800000#32)) : IVec S10000 1) i
      = BitVec.ofBool (decide (max (x i : EReal) (-(x i : EReal)) < ⊤)) := by
    have e : broadcastInDim S10000 ![] bcast_S_S10000 (constant (F := Ideal) S_ .f32 0x7F800000#32) i = (⊤ : EReal) := by
      erw [bc0]
      show Ideal.ofBits .f32 0x7F800000#32 = ⊤
      simp [Ideal.ofBits, Ideal.ieee]
    show (Ideal.cmp .olt (max (x i : EReal) (-(x i : EReal))) _ : BitVec 1) = _
    erw [e]
    rfl
  rw [hc, select_decide]
  split
  · next hlt => exact real_of_lt_top hlt
  · refine ⟨0, ?_⟩
    erw [bc0]
    exact Ideal.ofBits_zero_f32

/-! ### The rows of a segment -/

/-- The rows of segment `s`. -/
def rowsOf (b : S320000.Idx → BitVec 32) (s : ℕ) : Finset (Fin 320000) := Finset.univ.filter fun i => (b (ix1 i)).toInt = (s : Int)

/-- The column of ids, at a row. -/
theorem ids_apply (i : Fin 320000) : ids b (ix2 i 0) = b (ix1 i) := by
  unfold ids; exact bcCol _ b i

/-- At a row of segment `s`, the array taken at the rows' segments is the array's entry `s`. -/
theorem take_apply (x : FVec Ideal S10000 .f32) (s : Fin 10000) (i : Fin 320000) (hi : (b (ix1 i)).toInt = (s.val : Int)) :
    take b x (ix1 i) = x (ix1 s) := by
  have hb : b (ix1 i) = BitVec.ofNat 32 s.val := by
    apply BitVec.eq_of_toInt_eq
    rw [hi, toInt_ofNat_of_lt (by have := s.isLt; omega)]
  unfold take
  refine gather_take1 gather_S10000_S320000x1_S320000_n_0_n_n_0_1_1 rfl rfl rfl rfl x _ i s ?_ (by omega)
  unfold wrapped
  refine (bcCol _ _ i).trans ?_
  rw [select_at, cmpi_at]
  erw [bc0, constantI_at]
  rw [hb]
  refine wrap_of_lt _ _ ?_
  rw [BitVec.toNat_ofNat]
  have := s.isLt
  omega

/-- Row `i` of the ids' sums lands at the entry its id names. -/
theorem lands (s : Fin 10000) (i : Fin 320000) :
    (scatter_S10000_S320000x1_S320000_n_0_0_1).resultIdx? (ix1 i) (ids b) = some (ix1 s) ↔ (b (ix1 i)).toInt = (s.val : Int) := by
  refine (resultIdx?_ix1 _ _ _ s).trans ?_
  have hst : (scatter_S10000_S320000x1_S320000_n_0_0_1).start (ix1 i) (ids b) 0 = (ids b (ix2 i 0)).toInt := by
    unfold ScatterDims.start
    rw [dif_pos (show (0 : Fin 1) ∈ (scatter_S10000_S320000x1_S320000_n_0_0_1).scatterDimsToOperandDims from List.mem_singleton.2 rfl)]
    refine congrArg (fun z => (ids b z).toInt) ?_
    funext q; apply Fin.ext
    match q with
    | ⟨0, _⟩ => rfl
    | ⟨1, _⟩ => rfl
  have hw : (scatter_S10000_S320000x1_S320000_n_0_0_1).window (ix1 i) 0 = 0 := rfl
  rw [hst, hw, ids_apply]
  omega

/-- The segments' sums, entry by entry. -/
theorem sums_apply (e : FVec Ideal S320000 .f32) (s : Fin 10000) : (sums b e (ix1 s) : EReal) = ∑ i ∈ rowsOf b s.val, (e (ix1 i) : EReal) := by
  unfold sums
  show Ideal.hostScatterAdd _ _ _ _ _ = _
  unfold Ideal.hostScatterAdd
  erw [bc0]
  refine (congrArg (· + _) Ideal.ofBits_zero_f32).trans ((zero_add _).trans ?_)
  refine Finset.sum_nbij' (fun j => (j 0 : Fin 320000)) (fun i => ix1 i) (fun j hj => ?_) (fun i hi => ?_) (fun j _ => (eq_ix1 j).symm) (fun i _ => rfl)
    (fun j _ => congrArg e (eq_ix1 j))
  · rw [eq_ix1 j] at hj
    exact Finset.mem_filter.2 ⟨Finset.mem_univ _, (lands b s _).1 (Finset.mem_filter.1 hj).2⟩
  · exact Finset.mem_filter.2 ⟨Finset.mem_univ _, (lands b s i).2 (Finset.mem_filter.1 hi).2⟩

/-- Row `i`, column `q` of the rows' sums lands at the row its id names, in the same column. -/
theorem lands_row (s : Fin 10000) (q : Fin 128) (i : Fin 320000) (p : Fin 128) :
    (scatter_S10000x128_S320000x1_S320000x128_1_0_0_1).resultIdx? (ix2 i p) (ids b) = some (ix2 s q) ↔ (b (ix1 i)).toInt = (s.val : Int) ∧ p = q := by
  refine (resultIdx?_ix2 _ _ _ s q).trans ?_
  have hst : (scatter_S10000x128_S320000x1_S320000x128_1_0_0_1).start (ix2 i p) (ids b) 0 = (ids b (ix2 i 0)).toInt := by
    unfold ScatterDims.start
    rw [dif_pos (show (0 : Fin 2) ∈ (scatter_S10000x128_S320000x1_S320000x128_1_0_0_1).scatterDimsToOperandDims from List.mem_singleton.2 rfl)]
    refine congrArg (fun z => (ids b z).toInt) ?_
    funext q; apply Fin.ext
    match q with
    | ⟨0, _⟩ => rfl
    | ⟨1, _⟩ => rfl
  have hst1 : (scatter_S10000x128_S320000x1_S320000x128_1_0_0_1).start (ix2 i p) (ids b) 1 = 0 := rfl
  have hw : (scatter_S10000x128_S320000x1_S320000x128_1_0_0_1).window (ix2 i p) 0 = 0 := rfl
  have hw1 : (scatter_S10000x128_S320000x1_S320000x128_1_0_0_1).window (ix2 i p) 1 = p.val := rfl
  rw [hst, hw, hst1, hw1, ids_apply, Fin.ext_iff]
  omega

/-- A quotient of arrays, entry by entry. -/
theorem divf_at {S : Shape} (x y : FVec Ideal S .f32) (i : S.Idx) : (Host.divf x y i : EReal) = Ideal.div (x i) (y i) := rfl

/-- A row's share of its segment's sum. -/
theorem share_apply (e : FVec Ideal S320000 .f32) (s : Fin 10000) (i : Fin 320000) (hs : (b (ix1 i)).toInt = s.val) :
    (Host.divf e (take b (sums b e)) (ix1 i) : EReal) = Ideal.div (e (ix1 i)) (∑ j ∈ rowsOf b s.val, (e (ix1 j) : EReal)) := by
  have hd : take b (sums b e) (ix1 i) = (∑ j ∈ rowsOf b s.val, (e (ix1 j) : EReal)) := (take_apply b _ s _ hs).trans (sums_apply b e s)
  rw [← hd]
  exact divf_at e (take b (sums b e)) (ix1 i)

/-- The pooled rows, entry by entry. -/
theorem pooled_apply (e : FVec Ideal S320000 .f32) (s : Fin 10000) (q : Fin 128) :
    (pooled h b e (ix2 s q) : EReal) = ∑ i ∈ rowsOf b s.val, h (ix2 i q) * Ideal.div (e (ix1 i)) (∑ j ∈ rowsOf b s.val, (e (ix1 j) : EReal)) := by
  unfold pooled
  show Ideal.hostScatterAdd _ _ _ _ _ = _
  unfold Ideal.hostScatterAdd
  erw [bc0]
  refine (congrArg (· + _) Ideal.ofBits_zero_f32).trans ((zero_add _).trans ?_)
  refine Finset.sum_nbij' (fun j => (j 0 : Fin 320000)) (fun i => ix2 i q) (fun j hj => ?_) (fun i hi => ?_) (fun j hj => ?_) (fun i _ => rfl) (fun j hj => ?_)
  · rw [eq_ix2 j] at hj
    exact Finset.mem_filter.2 ⟨Finset.mem_univ _, ((lands_row b s q _ _).1 (Finset.mem_filter.1 hj).2).1⟩
  · exact Finset.mem_filter.2 ⟨Finset.mem_univ _, (lands_row b s q i q).2 ⟨(Finset.mem_filter.1 hi).2, rfl⟩⟩
  · rw [eq_ix2 j] at hj
    exact ((congrArg (ix2 (j 0)) ((lands_row b s q _ _).1 (Finset.mem_filter.1 hj).2).2).symm.trans (eq_ix2 j).symm)
  · rw [eq_ix2 j] at hj
    obtain ⟨hs, hq⟩ := (lands_row b s q _ _).1 (Finset.mem_filter.1 hj).2
    refine congrArg₂ (· * ·) (congrArg h ((eq_ix2 j).trans (congrArg (ix2 (j 0)) hq))) ?_
    rw [eq_ix2 j]
    exact (bcRows _ _ _ (j 0) (j 1)).trans (share_apply b e s (j 0) hs)

/-- THE REFERENCE at segment `s` and column `q`, the last layer of the scores finite: the mean of the column over the segment's
    rows, weighted by the exponentials of their scores. -/
theorem reference_apply (hw : ∀ x, max (w2 x : EReal) (-(w2 x : EReal)) < ⊤) (hb : ∀ x, max (b2 x : EReal) (-(b2 x : EReal)) < ⊤)
    (s : Fin 10000) (q : Fin 128) :
    (pooled h b (weights b (scores h w1 b1 w2 b2) (finite (top b (scores h w1 b1 w2 b2)))) (ix2 s q) : EReal)
      = mean (rowsOf b s.val) (fun i => Ideal.exp (score h w1 b1 w2 i)) (fun i => h (ix2 i q)) := by
  have hu : ∀ i, ∃ r : ℝ, score h w1 b1 w2 i = (r : EReal) := fun i => sum_real _ _ fun k => by
    obtain ⟨x, hx⟩ := tanh_real (∑ j : Fin 128, h (ix2 i j) * w1 (ix2 j k) + b1 (ix1 k))
    obtain ⟨y, hy⟩ := real_of_lt_top (hw (ix2 k 0))
    exact ⟨x * y, by rw [hx, hy, EReal.coe_mul]⟩
  choose u hu using hu
  obtain ⟨β, hβ⟩ := real_of_lt_top (hb (ix1 0))
  obtain ⟨μ, hμ⟩ := finite_real (top b (scores h w1 b1 w2 b2)) (ix1 s)
  have he : ∀ i ∈ rowsOf b s.val, (weights b (scores h w1 b1 w2 b2) (finite (top b (scores h w1 b1 w2 b2))) (ix1 i) : EReal)
      = Ideal.exp ((u i + (β - μ) : ℝ) : EReal) := fun i hi => by
    refine congrArg Ideal.exp ?_
    show (scores h w1 b1 w2 b2 (ix1 i) - take b _ (ix1 i) : EReal) = _
    rw [take_apply b _ s i (Finset.mem_filter.1 hi).2, hμ, scores_apply, hu, hβ, ← EReal.coe_add, ← EReal.coe_sub]
    exact congrArg (fun z : ℝ => (z : EReal)) (by ring)
  rw [pooled_apply, Finset.sum_congr rfl he]
  simp only [hu]
  rw [mean_exp _ u (β - μ)]
  exact Finset.sum_congr rfl fun i hi => by rw [he i hi]

end Cert.PoolReference

end
-- ==== Proof.Rows.lean ====
/-
  The rows of a segment, with the segments in order: they lie in the tiles of the segment's block,
  so that a sum over those tiles is the sum over the segment's rows.
-/
module

public import proofs.«01_k».proof.Proof.Words
public import proofs.«01_k».proof.Proof.Accum
public import proofs.«01_k».proof.Proof.Algebra
public import proofs.«01_k».proof.Proof.Reference

@[expose] public section

noncomputable section

namespace Cert.PoolRows

open Cert.PoolPlan Cert.PoolWords Cert.PoolMath Cert.PoolReference
open Idealize.ShloMosaic Idealize.ShloMosaic.ValueIdx
open scoped BigOperators

variable (b : (⟨1, ![320000]⟩ : Shape).Idx → BitVec 32)

/-- The segments are in order. -/
def InOrder : Prop := ∀ (i : ℕ) (hi : i + 1 < 320000), (b (ix1 ⟨i, Nat.lt_of_succ_lt hi⟩)).toInt ≤ (b (ix1 ⟨i + 1, hi⟩)).toInt

/-- `a` at the rows of segment `s`, nothing elsewhere. -/
def only (s : ℕ) (a : Fin 320000 → EReal) (i : ℕ) : EReal :=
  if h : i < 320000 then (if (b (ix1 ⟨i, h⟩)).toInt = (s : ℤ) then a ⟨i, h⟩ else 0) else 0

/-- `only` at a row. -/
theorem only_apply (s : ℕ) (a : Fin 320000 → EReal) (i : Fin 320000) :
    only b s a i.val = if (b (ix1 i)).toInt = (s : ℤ) then a i else 0 := by
  unfold only
  rw [dif_pos i.isLt]

/-- The sum of `only` is the sum over the segment's rows. -/
theorem sum_only (s : ℕ) (a : Fin 320000 → EReal) : ∑ i ∈ Finset.range 320000, only b s a i = ∑ i ∈ rowsOf b s, a i := by
  rw [Finset.sum_range, rowsOf, Finset.sum_filter]
  exact Finset.sum_congr rfl fun i _ => only_apply b s a i

variable {b}

/-- Sorted ids, at any two rows. -/
theorem InOrder.le (h : InOrder b) {i j : ℕ} (hij : i ≤ j) (hj : j < 320000) :
    (b (ix1 ⟨i, lt_of_le_of_lt hij hj⟩)).toInt ≤ (b (ix1 ⟨j, hj⟩)).toInt := by
  induction j, hij using Nat.le_induction with
  | base => exact le_refl _
  | succ j hij ih => exact (ih (Nat.lt_of_succ_lt hj)).trans (h j hj)

/-- A row whose segment is in block `s` is one of the block's rows. -/
theorem InOrder.mem (h : InOrder b) (s : ℕ) (i : ℕ) (hi : i < 320000) (h1 : 128 * (s : ℤ) ≤ (b (ix1 ⟨i, hi⟩)).toInt)
    (h2 : (b (ix1 ⟨i, hi⟩)).toInt < 128 * ((s + 1 : ℕ) : ℤ)) : below b s ≤ i ∧ i < below b (s + 1) := by
  unfold below
  rw [Nat.count_eq_card_filter_range, Nat.count_eq_card_filter_range]
  constructor
  · refine (Finset.card_le_card (t := Finset.range i) fun q hq => ?_).trans_eq (Finset.card_range i)
    obtain ⟨-, h3, h4⟩ := Finset.mem_filter.1 hq
    by_contra hne
    have := h.le (i := i) (j := q) (by rw [Finset.mem_range] at hne; omega) h3
    omega
  · refine lt_of_lt_of_le (Nat.lt_succ_self i) ((Finset.card_range (i + 1)).symm.trans_le (Finset.card_le_card fun q hq => ?_))
    rw [Finset.mem_range] at hq
    have := h.le (i := q) (j := i) (by omega) hi
    exact Finset.mem_filter.2 ⟨Finset.mem_range.2 (by omega), by omega, by omega⟩

/-- A sum over the tiles of a block is the sum over all rows, of what is zero off the block's rows. -/
theorem sum_tiles (r : ℕ → ℕ) (f : ℕ → EReal) (s : ℕ) (ht : t1 r s ≤ 199) (hf : ∀ i, f i ≠ 0 → r s ≤ i ∧ i < r (s + 1)) :
    ∑ t ∈ Finset.Ico (t0 r s) (t1 r s + 1), ∑ x ∈ Finset.range 1600, f (1600 * t + x) = ∑ i ∈ Finset.range 320000, f i := by
  rw [show 320000 = 1600 * 200 from rfl, ← sum_runs 1600 f 200]
  refine Finset.sum_subset (fun t h => ?_) fun t _ h => Finset.sum_eq_zero fun x hx => ?_
  · rw [Finset.mem_Ico] at h
    exact Finset.mem_range.2 (by omega)
  · by_contra hne
    obtain ⟨h1, h2⟩ := hf _ hne
    rw [Finset.mem_range] at hx
    refine h (Finset.mem_Ico.2 ?_)
    unfold t1 t0
    rw [if_pos (by omega)]
    omega

/-- The sums of `only` over a block's tiles, for a segment of the block, are the sum over the segment's rows. -/
theorem total_only (h : InOrder b) (s l : ℕ) (hl : l < 128) (ht : t1 (below b) s ≤ 199) (a : Fin 320000 → EReal) :
    overTiles (below b) (fun s t => ∑ x ∈ Finset.range 1600, only b (128 * s + l) a (1600 * t + x)) s = ∑ i ∈ rowsOf b (128 * s + l), a i := by
  unfold overTiles
  rw [sum_tiles (below b) (only b (128 * s + l) a) s ht fun i hi => ?_, sum_only]
  unfold only at hi
  split at hi
  · rename_i h1
    split at hi
    · rename_i h2
      exact h.mem s i h1 (by rw [h2]; push_cast; omega) (by rw [h2]; push_cast; omega)
    · exact absurd rfl hi
  · exact absurd rfl hi

end Cert.PoolRows

end
-- ==== Proof.Steps.lean ====
/-
  One point of the pass, entry by entry, over the extended reals: what it adds to a lane's weighted
  sums and to its sum of weights, as sums over the tile's rows of the lane's segment.
-/
module

public import proofs.«01_k».proof.Proof.Held
public import proofs.«01_k».proof.Proof.Entry
public import proofs.«01_k».proof.Proof.Table
public import proofs.«01_k».proof.Proof.Payload
public import proofs.«01_k».proof.Proof.Rows

@[expose] public section

noncomputable section

namespace Cert.PoolSteps

open Cert.KernelIdeal Cert.KernelIdeal.Gen Cert.PoolBody Cert.PoolPayload Cert.PoolPlan Cert.PoolWords Cert.PoolRows
open Idealize.ShloMosaic Idealize.ShloMosaic.TcCoe Idealize.ShloMosaic.ValueIdx Idealize.ShloMosaic.WordCmp
open scoped BigOperators

/-! ### The lane of a segment -/

/-- A segment's word less its block's first segment is the lane `l` exactly where the segment is `128 s + l`. -/
theorem lane_iff (w : BitVec 32) (s l : ℕ) (hs : s ≤ 78) (hl : l < 128) :
    BitVec.ofNat 32 l = w - BitVec.ofNat 32 s * 128#32 ↔ w.toInt = ((128 * s + l : ℕ) : ℤ) := by
  have e : BitVec.ofNat 32 (128 * s + l) = BitVec.ofNat 32 l + BitVec.ofNat 32 s * 128#32 := by
    rw [show (128#32 : BitVec 32) = BitVec.ofNat 32 128 from rfl, ← BitVec.ofNat_mul, ← BitVec.ofNat_add]
    congr 1; omega
  have e' : (BitVec.ofNat 32 (128 * s + l)).toInt = ((128 * s + l : ℕ) : ℤ) := toInt_ofNat_of_lt (by omega)
  rw [← e', e, BitVec.toInt_inj]
  constructor
  · intro h; rw [h, BitVec.sub_add_cancel]
  · intro h; rw [h, BitVec.add_sub_cancel]

/-! ### The two steps at the words the schedule holds -/

section Words

variable (s : BitVec 32) (ht : FVec Ideal S1600x128 .f32) (w1 : FVec Ideal S128x64 .f32) (b1 : FVec Ideal S1x64 .f32)
  (w2 : FVec Ideal S64x8 .f32) (bt : IVec S1x1x1600 32) (o : FVec Ideal S128x128 .f32) (d : FVec Ideal S1x128 .f32)

/-- The body does no work where the valid word is 0. -/
theorem cond1_zero : k0_cond1 0#32 ≠ 1#1 := by decide
/-- It does not start the block where the first word is 0. -/
theorem cond2_zero : k0_cond2 0#32 ≠ 1#1 := by decide
/-- It does not end the block where the last word is 0. -/
theorem cond4_zero : k0_cond4 0#32 ≠ 1#1 := by decide
/-- It adds where the first word is 0. -/
theorem cond3_zero : k0_cond3 0#32 = 1#1 := by decide

/-- The denominators after a point. -/
theorem stepD_apply (fi va : Prop) [Decidable fi] [Decidable va] (l : Fin 128) :
    (stepD (F := Ideal) s (BitVec.ofNat 32 (if fi then 1 else 0)) (BitVec.ofNat 32 (if va then 1 else 0)) ht w1 b1 w2 bt d (ix2 0 l) : EReal)
      = if va then (if fi then k0_pay3 (F := Ideal) s ht w1 b1 w2 bt (ix2 0 l) else (d (ix2 0 l) : EReal) + k0_pay3 (F := Ideal) s ht w1 b1 w2 bt (ix2 0 l))
        else d (ix2 0 l) := by
  have h1 : k0_cond1 1#32 = 1#1 := (cond1_iff _).mpr rfl
  have h2 : k0_cond2 1#32 = 1#1 := (cond2_iff _).mpr rfl
  by_cases hv : va
  · by_cases hf : fi
    · simp only [hv, hf, if_true]
      simp only [stepD, h1, h2, cond3_one, and_false, and_self, if_true, if_false]
      exact pay4_apply s ht w1 b1 w2 bt l
    · simp only [hv, hf, if_true, if_false]
      simp only [stepD, h1, cond2_zero, cond3_zero, and_false, and_self, if_true, if_false]
      exact pay6_apply s ht w1 b1 w2 bt d l
  · simp only [hv, if_false]
    simp only [stepD, cond1_zero, false_and, if_false]

/-- The block after a point. -/
theorem stepO_apply (fi la va : Prop) [Decidable fi] [Decidable la] [Decidable va] (l q : Fin 128) :
    (stepO (F := Ideal) s (BitVec.ofNat 32 (if fi then 1 else 0)) (BitVec.ofNat 32 (if la then 1 else 0)) (BitVec.ofNat 32 (if va then 1 else 0))
        ht w1 b1 w2 bt o d (ix2 l q) : EReal)
      = if la then
          (fun x y : EReal => if 0 < y then Ideal.div x y else 0)
            (if va then (if fi then k0_pay2 (F := Ideal) s ht w1 b1 w2 bt (ix2 l q) else (o (ix2 l q) : EReal) + k0_pay2 (F := Ideal) s ht w1 b1 w2 bt (ix2 l q))
              else o (ix2 l q)) (d (ix2 0 l))
        else (if va then (if fi then k0_pay2 (F := Ideal) s ht w1 b1 w2 bt (ix2 l q) else (o (ix2 l q) : EReal) + k0_pay2 (F := Ideal) s ht w1 b1 w2 bt (ix2 l q))
          else o (ix2 l q)) := by
  have h1 : k0_cond1 1#32 = 1#1 := (cond1_iff _).mpr rfl
  have h2 : k0_cond2 1#32 = 1#1 := (cond2_iff _).mpr rfl
  have h4 : k0_cond4 1#32 = 1#1 := (cond4_iff _).mpr rfl
  have key : ∀ (P : FVec Ideal S128x128 .f32) (x : EReal), (P (ix2 l q) : EReal) = x →
      ((if k0_cond4 (BitVec.ofNat 32 (if la then 1 else 0)) = 1#1 then k0_pay7 (F := Ideal) d P else P) (ix2 l q) : EReal)
        = if la then (fun x y : EReal => if 0 < y then Ideal.div x y else 0) x (d (ix2 0 l)) else x := by
    intro P x hP
    by_cases hl : la
    · simp only [hl, if_true, h4]
      rw [← hP]
      exact pay7_apply d P l q
    · simp only [hl, if_false, cond4_zero]
      exact hP
  unfold stepO
  refine key _ _ ?_
  by_cases hv : va
  · by_cases hf : fi
    · simp only [hv, hf, if_true, h1, h2, cond3_one, and_false, and_self, if_false]
    · simp only [hv, hf, if_true, if_false, h1, cond2_zero, cond3_zero, and_false, and_self]
      exact pay5_apply s ht w1 b1 w2 bt o l q
  · simp only [hv, if_false, cond1_zero, false_and]

end Words

end Cert.PoolSteps

end
-- ==== Proof.Sums.lean ====
/-
  The pass, over the extended reals: the last point of a block of segments leaves, in every lane,
  the mean over the rows of the lane's segment, weighted by the exponentials of their scores.
-/
module

public import proofs.«01_k».proof.Proof.Steps

@[expose] public section

noncomputable section

namespace Cert.PoolSteps

open Cert.KernelIdeal Cert.KernelIdeal.Gen Cert.PoolBody Cert.PoolPayload Cert.PoolPlan Cert.PoolWords Cert.PoolRows
open Cert.PoolMath Cert.PoolReference
open Idealize.ShloMosaic Idealize.ShloMosaic.TcCoe Idealize.ShloMosaic.ValueIdx Idealize.ShloMosaic.WordCmp
open scoped BigOperators

attribute [local irreducible] PoolPlan.tile PoolPlan.seg PoolPlan.off

/-- Every point's tile is one of the 200. -/
theorem tile_lt {ρ : ℕ → ℕ} (hr : Rows ρ) (n : ℕ) : tile ρ n < 200 := Nat.lt_succ_of_le (tile_le hr n)

/-- Every row of a point's tile is a row. -/
theorem row_lt {ρ : ℕ → ℕ} (hr : Rows ρ) (n : ℕ) (r : Fin 1600) : 1600 * tile ρ n + r.val < 320000 := by
  have := tile_lt hr n
  have := r.isLt
  omega

/-- A tile's number fits a word. -/
theorem tile_mod {ρ : ℕ → ℕ} (hr : Rows ρ) (n : ℕ) : tile ρ n % 2 ^ 32 = tile ρ n :=
  Nat.mod_eq_of_lt (lt_trans (tile_lt hr n) (by decide))

variable (m : (ℓ : Loc nD τ sig) → Buf (Elt Ideal) ℓ)

/-- The rows. -/
abbrev rowsIn : S320000x128.Idx → EReal := m (((0 : Dev nD) : Thread nD τ).loc main_arg0)

/-- The weight of a row. -/
def weight (i : Fin 320000) : EReal :=
  Ideal.exp (score (rowsIn m) (m (((0 : Dev nD) : Thread nD τ).loc main_arg2)) (m (((0 : Dev nD) : Thread nD τ).loc main_arg3))
    (m (((0 : Dev nD) : Thread nD τ).loc main_arg4)) i)

/-- The result at segment `s` and column `q`. -/
def target (s : ℕ) (q : Fin 128) : EReal := mean (rowsOf (batchOf m) s) (weight m) (fun i => rowsIn m (ix2 i q))

variable (h : Sched (tab m 0)) (n : ℕ) (hn : n < (cfg0 (adm h)).N)

/-- The tile of ids that a point holds. -/
def heldIds : IVec S1x1x1600 32 := held h (arrs m h 0) 0 n hn
/-- The tile of rows that a point holds. -/
def heldRows : FVec Ideal S1600x128 .f32 := held h (arrs m h 0) 1 n hn
/-- The first matrix, as a point holds it. -/
def heldW1 : FVec Ideal S128x64 .f32 := held h (arrs m h 0) 2 n hn
/-- The first bias, as a point holds it. -/
def heldB1 : FVec Ideal S1x64 .f32 := held h (arrs m h 0) 3 n hn
/-- The padded second matrix, as a point holds it. -/
def heldW2 : FVec Ideal S64x8 .f32 := held h (arrs m h 0) 4 n hn

section Tile

variable (t : Fin 200) (ht : (word (tab m) 0 n (lt_of_lt_of_eq hn N_0)).toNat = t.val) (r : Fin 1600) (i : Fin 320000) (hri : i.val = 1600 * t.val + r.val)
include ht hri

/-- The segments a tile holds are those of its rows, -/
theorem tile_ids : heldIds m h n hn (ix3 0 0 r) = batchOf m (ix1 i) :=
  (held_ids h (arrs m h) 0 n hn t ht r).trans (entry_ids_apply m 0 t r i hri)

/-- its rows are the rows, -/
theorem tile_rows (j : Fin 128) : heldRows m h n hn (ix2 r j) = rowsIn m (ix2 i j) :=
  (held_rows h (arrs m h) 0 n hn t ht r j i hri).trans (congrFun (entry_args m 0).1 (ix2 i j))

/-- and their scores are the rows' scores. -/
theorem tile_weight : Ideal.exp (tileScore (heldRows m h n hn) (heldW1 m h n hn) (heldB1 m h n hn) (heldW2 m h n hn) r) = weight m i := by
  unfold weight tileScore score
  refine congrArg Ideal.exp (Finset.sum_congr rfl fun k _ => congrArg₂ (· * ·) (congrArg Ideal.tanh (congrArg₂ (· + ·) (Finset.sum_congr rfl fun j _ =>
    congrArg₂ (· * ·) (tile_rows m h n hn t ht r i hri j) ?_) ?_)) ?_)
  · exact (held_w1 h (arrs m h) 0 n hn (ix2 j k)).trans (congrFun (entry_args m 0).2.2.1 (ix2 j k))
  · exact (held_b1 h (arrs m h) 0 n hn (ix2 0 k)).trans (entry_b1_apply m 0 k)
  · exact (held_w2 h (arrs m h) 0 n hn (ix2 k 0)).trans (entry_w2_apply m 0 k)

end Tile

variable {ρ : ℕ → ℕ} (hr : Rows ρ) (w : Words (tab m 0) ρ)
include hn hr w

/-- The tile of a point, as the schedule names it. -/
theorem tile_word : (word (tab m) 0 n (lt_of_lt_of_eq hn N_0)).toNat = tile ρ n := by
  show (tab m 0 (cell 0 ⟨n, lt_of_lt_of_eq hn N_0⟩) : BitVec 32).toNat = _
  rw [w.tile, BitVec.toNat_ofNat]
  exact tile_mod hr n

/-- The test of a row of the tile for a lane. -/
theorem tile_lane (l : Fin 128) (r : Fin 1600) (i : Fin 320000) (hri : i.val = 1600 * tile ρ n + r.val) :
    BitVec.ofNat 32 l.val = heldIds m h n hn (ix3 0 0 r) - word (tab m) 1 n (lt_of_lt_of_eq hn N_0) * 128#32
      ↔ (batchOf m (ix1 i)).toInt = ((128 * seg ρ n + l.val : ℕ) : ℤ) := by
  have e : word (tab m) 1 n (lt_of_lt_of_eq hn N_0) = BitVec.ofNat 32 (seg ρ n) := w.seg ⟨n, lt_of_lt_of_eq hn N_0⟩
  rw [tile_ids m h n hn ⟨tile ρ n, tile_lt hr n⟩ (tile_word m h n hn hr w) r i hri, e]
  exact lane_iff _ _ _ (seg_le n) l.isLt

/-- A tile's sum of weights in a lane. -/
theorem tile_weights (l : Fin 128) :
    (k0_pay3 (F := Ideal) (word (tab m) 1 n (lt_of_lt_of_eq hn N_0)) (heldRows m h n hn) (heldW1 m h n hn) (heldB1 m h n hn) (heldW2 m h n hn)
        (heldIds m h n hn) (ix2 0 l) : EReal)
      = ∑ x ∈ Finset.range 1600, only (batchOf m) (128 * seg ρ n + l.val) (weight m) (1600 * tile ρ n + x) := by
  rw [Finset.sum_range]
  refine (pay3_apply _ (heldRows m h n hn) (heldW1 m h n hn) (heldB1 m h n hn) (heldW2 m h n hn) (heldIds m h n hn) l).trans (Finset.sum_congr rfl fun r _ => ?_)
  have hi : 1600 * tile ρ n + r.val < 320000 := row_lt hr n r
  refine Eq.trans ?_ (only_apply (batchOf m) _ (weight m) ⟨_, hi⟩).symm
  exact if_congr (tile_lane m h n hn hr w l r ⟨_, hi⟩ rfl)
    (tile_weight m h n hn ⟨tile ρ n, tile_lt hr n⟩ (tile_word m h n hn hr w) r ⟨_, hi⟩ rfl) rfl

/-- A tile's weighted sums in a lane. -/
theorem tile_sums (l q : Fin 128) :
    (k0_pay2 (F := Ideal) (word (tab m) 1 n (lt_of_lt_of_eq hn N_0)) (heldRows m h n hn) (heldW1 m h n hn) (heldB1 m h n hn) (heldW2 m h n hn)
        (heldIds m h n hn) (ix2 l q) : EReal)
      = ∑ x ∈ Finset.range 1600, only (batchOf m) (128 * seg ρ n + l.val) (fun i => weight m i * rowsIn m (ix2 i q)) (1600 * tile ρ n + x) := by
  rw [Finset.sum_range]
  refine (pay2_apply _ (heldRows m h n hn) (heldW1 m h n hn) (heldB1 m h n hn) (heldW2 m h n hn) (heldIds m h n hn) l q).trans (Finset.sum_congr rfl fun r _ => ?_)
  have hi : 1600 * tile ρ n + r.val < 320000 := row_lt hr n r
  refine Eq.trans ?_ (only_apply (batchOf m) _ (fun i => weight m i * rowsIn m (ix2 i q)) ⟨_, hi⟩).symm
  refine (congrArg₂ (· * ·) (if_congr (tile_lane m h n hn hr w l r ⟨_, hi⟩ rfl)
    (tile_weight m h n hn ⟨tile ρ n, tile_lt hr n⟩ (tile_word m h n hn hr w) r ⟨_, hi⟩ rfl) rfl)
    (tile_rows m h n hn ⟨tile ρ n, tile_lt hr n⟩ (tile_word m h n hn hr w) r ⟨_, hi⟩ rfl q)).trans ?_
  by_cases hc : (batchOf m (ix1 ⟨_, hi⟩)).toInt = ((128 * seg ρ n + l.val : ℕ) : ℤ)
  · rw [if_pos hc, if_pos hc]
  · rw [if_neg hc, if_neg hc]; exact zero_mul _

/-- The denominators take a tile's sums of weights. -/
theorem step_snd (l : Fin 128) : ((st h (arrs m h 0) (n + 1)).2 (ix2 0 l) : EReal)
    = take ρ (fun s t => ∑ x ∈ Finset.range 1600, only (batchOf m) (128 * s + l.val) (weight m) (1600 * t + x)) n ((st h (arrs m h 0) n).2 (ix2 0 l)) := by
  rw [st_succ_snd h (arrs m h) 0 n hn,
    show word (tab m) 2 n (lt_of_lt_of_eq hn N_0) = _ from w.first ⟨n, lt_of_lt_of_eq hn N_0⟩,
    show word (tab m) 4 n (lt_of_lt_of_eq hn N_0) = _ from w.valid ⟨n, lt_of_lt_of_eq hn N_0⟩]
  refine (stepD_apply (word (tab m) 1 n (lt_of_lt_of_eq hn N_0)) (heldRows m h n hn) (heldW1 m h n hn) (heldB1 m h n hn) (heldW2 m h n hn) (heldIds m h n hn)
    (st h (arrs m h 0) n).2 _ _ l).trans ?_
  rw [tile_weights m h n hn hr w l]
  rfl

/-- The block takes a tile's weighted sums, and the last point of a block divides. -/
theorem step_fst (l q : Fin 128) : ((st h (arrs m h 0) (n + 1)).1 (ix2 l q) : EReal)
    = if n = 278 ∨ seg ρ (n + 1) ≠ seg ρ n then
        (fun x y : EReal => if 0 < y then Ideal.div x y else 0)
          (take ρ (fun s t => ∑ x ∈ Finset.range 1600, only (batchOf m) (128 * s + l.val) (fun i => weight m i * rowsIn m (ix2 i q)) (1600 * t + x)) n
            ((st h (arrs m h 0) n).1 (ix2 l q)))
          ((st h (arrs m h 0) (n + 1)).2 (ix2 0 l))
      else take ρ (fun s t => ∑ x ∈ Finset.range 1600, only (batchOf m) (128 * s + l.val) (fun i => weight m i * rowsIn m (ix2 i q)) (1600 * t + x)) n
            ((st h (arrs m h 0) n).1 (ix2 l q)) := by
  rw [st_succ_fst h (arrs m h) 0 n hn,
    show word (tab m) 2 n (lt_of_lt_of_eq hn N_0) = _ from w.first ⟨n, lt_of_lt_of_eq hn N_0⟩,
    show word (tab m) 3 n (lt_of_lt_of_eq hn N_0) = _ from w.last ⟨n, lt_of_lt_of_eq hn N_0⟩,
    show word (tab m) 4 n (lt_of_lt_of_eq hn N_0) = _ from w.valid ⟨n, lt_of_lt_of_eq hn N_0⟩]
  refine (stepO_apply (word (tab m) 1 n (lt_of_lt_of_eq hn N_0)) (heldRows m h n hn) (heldW1 m h n hn) (heldB1 m h n hn) (heldW2 m h n hn) (heldIds m h n hn)
    (st h (arrs m h 0) n).1 (st h (arrs m h 0) (n + 1)).2 _ _ _ l q).trans ?_
  rw [tile_sums m h n hn hr w l q]
  rfl

omit hr w in
/-- THE PASS: the last point of a block leaves the target in every lane. -/
theorem pass_last (hr : Rows (below (batchOf m))) (w : Words (tab m 0) (below (batchOf m))) (ho : InOrder (batchOf m)) (l q : Fin 128)
    (hl : n = 278 ∨ seg (below (batchOf m)) (n + 1) ≠ seg (below (batchOf m)) n) :
    ((st h (arrs m h 0) (n + 1)).1 (ix2 l q) : EReal) = target m (128 * seg (below (batchOf m)) n + l.val) q := by
  have hs := seg_le (r := below (batchOf m)) n
  have key := sums_last hr
    (fun s t => ∑ x ∈ Finset.range 1600, only (batchOf m) (128 * s + l.val) (fun i => weight m i * rowsIn m (ix2 i q)) (1600 * t + x))
    (fun s t => ∑ x ∈ Finset.range 1600, only (batchOf m) (128 * s + l.val) (weight m) (1600 * t + x))
    (fun x y : EReal => if 0 < y then Ideal.div x y else 0)
    (fun n => ((st h (arrs m h 0) n).1 (ix2 l q) : EReal)) (fun n => ((st h (arrs m h 0) n).2 (ix2 0 l) : EReal))
    (fun k hk => step_snd m h k (lt_of_lt_of_eq hk N_0.symm) hr w l) (fun k hk => step_fst m h k (lt_of_lt_of_eq hk N_0.symm) hr w l q)
    n (lt_of_lt_of_eq hn N_0) hl
  rw [total_only ho _ l.val l.isLt (hr.t1_le _ hs), total_only ho _ l.val l.isLt (hr.t1_le _ hs)] at key
  exact key

end Cert.PoolSteps

end
-- ==== Proof.Pooled.lean ====
/-
  The array the pass leaves, over the extended reals: every segment's row is written by the last
  point of the segment's block, so that the array holds the weighted means of all the segments.
-/
module

public import proofs.«01_k».proof.Proof.Sums
public import Idealize.ShloMosaic.Lib.Pipeline.ValueKit.Geometry

@[expose] public section

noncomputable section

namespace Cert.PoolSteps

open Cert.KernelIdeal Cert.KernelIdeal.Gen Cert.PoolBody Cert.PoolPlan Cert.PoolWords Cert.PoolRows
open Idealize.ShloMosaic Idealize.ShloMosaic.TcCoe Idealize.ShloMosaic.ValueIdx
open Idealize.SL.Sem
open Idealize.ShloMosaic.Pipeline (Dat Cfg Window)

/-- Every block has a last point. -/
theorem exists_last {ρ : ℕ → ℕ} (hr : Rows ρ) (s : ℕ) (hs : s ≤ 78) :
    ∃ n, n < 279 ∧ seg ρ n = s ∧ (n = 278 ∨ seg ρ (n + 1) ≠ seg ρ n) := by
  have h3 := hr.off_last
  by_cases h : s = 78
  · exact ⟨278, by omega, (seg_of_past h3).trans h.symm, .inl rfl⟩
  · have h1 : off ρ s < off ρ (s + 1) := off_strictMono (Nat.lt_succ_self s)
    have h2 : off ρ (s + 1) < off ρ (s + 1 + 1) := off_strictMono (Nat.lt_succ_self _)
    have h4 : off ρ (s + 1) ≤ off ρ 79 := off_strictMono.monotone (by omega)
    obtain ⟨n, hn⟩ : ∃ n, n + 1 = off ρ (s + 1) := ⟨off ρ (s + 1) - 1, by omega⟩
    have e : seg ρ n = s := seg_of_mem hs (by omega) (by omega)
    refine ⟨n, by omega, e, .inr ?_⟩
    rw [e, seg_of_mem (r := ρ) (s := s + 1) (by omega) (by omega) (by omega)]
    omega

/-- The block a row lies in. -/
theorem block_of (i : ℕ) (hi : i < 10112) : i / 128 ≤ 78 ∧ i / 128 * 128 ≤ i ∧ i < i / 128 * 128 + 128 := by
  exact ⟨Nat.le_of_lt_succ (Nat.div_lt_of_lt_mul (lt_of_lt_of_le hi (by norm_num))), Nat.div_mul_le_self i 128, Nat.lt_div_mul_add (by norm_num)⟩

attribute [local irreducible] PoolPlan.tile PoolPlan.seg PoolPlan.off

variable (m : (ℓ : Loc nD τ sig) → Buf (Elt Ideal) ℓ) (h : Sched (tab m 0))
variable {ρ : ℕ → ℕ} (w : Words (tab m 0) ρ)
include w

/-- The block of the result at a point. -/
theorem block_index (t : Fin (cfg0 (adm h)).N) : ((cfg0 (adm h)).win 5).index t = ![seg ρ t.val, 0] := by
  have e : word (tab m) 1 t.val (lt_of_lt_of_eq t.isLt N_0) = BitVec.ofNat 32 (seg ρ t.val) := w.seg ⟨t.val, lt_of_lt_of_eq t.isLt N_0⟩
  rw [out_index, e, BitVec.toNat_ofNat, Nat.mod_eq_of_lt (lt_of_le_of_lt (seg_le t.val) (by decide))]

/-- The block is written back at the last points, -/
theorem last_of_flush (t : Fin (cfg0 (adm h)).N) (hf : ((cfg0 (adm h)).win 5).flush t = true) :
    t.val = 278 ∨ seg ρ (t.val + 1) ≠ seg ρ t.val := by
  unfold Pipeline.Window.flush at hf
  simp only [Bool.and_eq_true, Bool.or_eq_true, decide_eq_true_eq] at hf
  rcases hf.2 with e | ⟨h', hne⟩
  · exact .inl (Nat.succ_injective (e.trans N_0))
  · refine .inr fun e => hne ?_
    rw [block_index m h w, block_index m h w]
    exact congrArg (fun x : ℕ => ![x, 0]) e

/-- and only there. -/
theorem flush_of_last (t : Fin (cfg0 (adm h)).N) (hl : t.val = 278 ∨ seg ρ (t.val + 1) ≠ seg ρ t.val) :
    ((cfg0 (adm h)).win 5).flush t = true := by
  unfold Pipeline.Window.flush
  simp only [Bool.and_eq_true, Bool.or_eq_true, decide_eq_true_eq]
  refine ⟨rfl, ?_⟩
  by_cases e : t.val + 1 = (cfg0 (adm h)).N
  · exact .inl e
  · have h' : t.val + 1 < (cfg0 (adm h)).N := lt_of_le_of_ne t.isLt e
    refine .inr ⟨h', fun e' => ?_⟩
    rw [block_index m h w, block_index m h w] at e'
    rcases hl with hl | hl
    · exact e (by rw [hl]; exact N_0.symm)
    · exact hl (congrFun e' 0)

omit w in
/-- THE ARRAY after the pass. -/
theorem array_apply (hr : Rows (below (batchOf m))) (w : Words (tab m 0) (below (batchOf m))) (ho : InOrder (batchOf m)) (i : Fin 10112) (q : Fin 128) :
    ((dats h (arrs m h) 0 0).arrAt 5 (cfg0 (adm h)).N : Vec Ideal S10112x128 .f32) (ix2 i q) = target m i.val q := by
  refine Dat.arrAt_forall_of_cover (dats h (arrs m h) 0 0) 5 (fun (x : S10112x128.Idx) (v : EReal) => v = target m (x 0).val (x 1)) ?_ ?_ (ix2 i q)
  · intro t hf y
    have hl := last_of_flush m h w t hf
    have e0 : ((((cfg0 (adm h)).win 5).rect t).emb y (0 : Fin 2) : ℕ) = 128 * seg (below (batchOf m)) t.val + (y (0 : Fin 2)).val := by
      refine (Pipeline.Window.rect_emb_val ((cfg0 (adm h)).win 5) t y (0 : Fin 2) rfl).trans ?_
      rw [block_index m h w, Nat.mul_comm]
      rfl
    have e1 : ((((cfg0 (adm h)).win 5).rect t).emb y (1 : Fin 2) : ℕ) = (y (1 : Fin 2)).val := by
      refine Pipeline.Window.rect_emb_val_of_index_zero ((cfg0 (adm h)).win 5) t (1 : Fin 2) ?_ y
      rw [block_index m h w]
      rfl
    have key := pass_last m h t.val t.isLt hr w ho (y (0 : Fin 2)) (y (1 : Fin 2)) hl
    have hv : (dats h (arrs m h) 0 0).flushed 5 t y = (st h (arrs m h 0) (t.val + 1)).1 (ix2 (y (0 : Fin 2)) (y (1 : Fin 2))) := by
      refine (congrFun (after_out h (arrs m h) 0 t) _).trans (congrArg (st h (arrs m h 0) (t.val + 1)).1 ?_)
      exact eq_ix2 _
    refine Eq.trans hv (key.trans ?_)
    exact congrArg₂ (target m) e0.symm (Fin.ext e1.symm)
  · intro x
    obtain ⟨b1, b2, b3⟩ := block_of (x (0 : Fin 2)).val (x (0 : Fin 2)).isLt
    obtain ⟨n, hn, es, hl⟩ := exists_last hr _ b1
    refine ⟨⟨n, lt_of_lt_of_eq hn N_0.symm⟩, flush_of_last m h w _ hl, ?_⟩
    refine (Pipeline.Window.emb_mem_blk_iff ((cfg0 (adm h)).win 5) _ x rfl).2 fun a => ?_
    rw [block_index m h w]
    match a with
    | ⟨0, _⟩ =>
      show seg (below (batchOf m)) n * 128 ≤ (x (0 : Fin 2)).val ∧ (x (0 : Fin 2)).val < seg (below (batchOf m)) n * 128 + 128
      rw [es]
      exact ⟨b2, b3⟩
    | ⟨1, _⟩ =>
      show 0 * 128 ≤ (x (1 : Fin 2)).val ∧ (x (1 : Fin 2)).val < 0 * 128 + 128
      rw [Nat.zero_mul, Nat.zero_add]
      exact ⟨Nat.zero_le _, (x (1 : Fin 2)).isLt⟩

/-- The array the kernel is to return. -/
def result : S10000x128.Idx → EReal := fun x => target m (x (0 : Fin 2)).val (x (1 : Fin 2))

omit w in
/-- The first 10000 rows of the array the pass leaves are the result. -/
theorem slice_eq (hr : Rows (below (batchOf m))) (w : Words (tab m 0) (below (batchOf m))) (ho : InOrder (batchOf m)) :
    (extractStridedSlice S10000x128 ![0, 0] (show Vec Ideal S10112x128 .f32 from (dats h (arrs m h) 0 0).arrAt 5 (cfg0 (adm h)).N)
      slices_S10112x128_S10000x128_0_0 : S10000x128.Idx → EReal) = result m := by
  funext x
  have hx : (x (0 : Fin 2)).val < 10112 := lt_trans (x (0 : Fin 2)).isLt (by norm_num)
  refine (extractStridedSlice_apply _ _ _ x (ix2 ⟨(x (0 : Fin 2)).val, hx⟩ (x (1 : Fin 2))) fun a => ?_).trans (array_apply m h hr w ho ⟨_, hx⟩ (x (1 : Fin 2)))
  match a with
  | ⟨0, _⟩ => exact (Nat.zero_add _).symm
  | ⟨1, _⟩ => exact (Nat.zero_add _).symm

omit w in
include h in
/-- THE KERNEL'S RUN: it leaves the result in the array it returns, and the arguments as they were. -/
theorem run_result (g : Dev nD → PrngReg) (hr : Rows (below (batchOf m))) (w : Words (tab m 0) (below (batchOf m))) (ho : InOrder (batchOf m)) :
    θ_run defs (onTc (τ := τ) (main (F := Ideal))) ⟨m, fun _ => 0, g⟩ (fun r => ∀ c : Dev nD,
      r.2.mem ((c.tc : Thread nD τ).loc main_v75) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr' c => ⟨?_, args_kept m h r hr'.1 c⟩) (run_pool m g h)
  obtain rfl : c = 0 := Subsingleton.elim _ _
  obtain ⟨-, hrest⟩ := hr'.1 0
  exact ((hrest main_v75 (Pipeline.mem_restRefs_of main_v75 rfl (show ∀ w, Pipeline.arrRef spec0 w ≠ main_v75 from by decide))).trans (tail_result m h 0)).trans (slice_eq m h hr w ho)

end Cert.PoolSteps

end
-- ==== Proof.Transfer.lean ====
/-
  The printed kernel and its reading over the extended reals are one text: read at any one instance of the floats, the two
  programs are equal. So what is proved of the second over floats as words holds of the first.
-/
module

public import proofs.«01_k».proof.Defs
public import proofs.«01_k».proof.Proof.Gen.Kernel.Launch
public import proofs.«01_k».proof.Proof.Gen.KernelIdeal.Launch

@[expose] public section

set_option maxRecDepth 100000
set_option maxHeartbeats 2000000
set_option backward.isDefEq.respectTransparency.types false

namespace Cert.PoolTransfer

open Idealize.ShloMosaic Idealize.SL.Sem

/-- The two calls' bodies are one function. -/
theorem bodies_eq : Cert.Kernel.defs₀ (F := Bits) = Cert.KernelIdeal.defs₀ (F := Bits) := by
  unfold Cert.Kernel.defs₀ Cert.KernelIdeal.defs₀; congr 1
  funext a b
  match a, b with
  | 0, (t, s) => rfl
  | ⟨n + 1, h⟩, _ => exact absurd h (by omega)

/-- The two programs' definitions are the same. -/
theorem defs_eq : Cert.Kernel.defs (F := Bits) = Cert.KernelIdeal.defs (F := Bits) := by
  unfold Cert.Kernel.defs Cert.KernelIdeal.defs
  rw [bodies_eq]
  rfl

/-- The two programs' main functions are the same. -/
theorem main_eq : Cert.Kernel.main (F := Bits) = Cert.KernelIdeal.main (F := Bits) := by
  funext c
  rw [Cert.Kernel.Gen.main_chain]
  exact (Cert.KernelIdeal.Gen.main_chain (F := Bits) c).symm

end Cert.PoolTransfer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_last_block_used
public import proofs.«01_k».proof.Proof.Gen.Pre_pool_inputs
public import proofs.«01_k».proof.Proof.Pre
public import proofs.«01_k».proof.Proof.Inputs
public import proofs.«01_k».proof.Proof.Pooled
public import proofs.«01_k».proof.Proof.Table
public import proofs.«01_k».proof.Proof.Transfer
public import Idealize.ShloMosaic.Adequacy
public import Idealize.ShloMosaic.Init

@[expose] public section

noncomputable section

namespace Cert.Proof

open Idealize.ShloMosaic Idealize.SL.Sem
open Cert.PoolWords (batchOf below rows_of_used tab_words)

/-- When some id is at least 9984, the table the host lines leave is a schedule the pass accepts. -/
theorem sched {F : FTy → Type} [FloatOps F] (m : (ℓ : Loc Cert.KernelIdeal.nD Cert.KernelIdeal.τ Cert.KernelIdeal.sig) → Buf (Elt F) ℓ)
    (h : ∃ x, 9984 ≤ (batchOf m x).toInt) : Cert.PoolBody.Sched (Cert.PoolBody.tab m 0) :=
  h.elim fun x hx => (tab_words m (rows_of_used _ x hx)).sched (rows_of_used _ x hx)

/-- The kernel read over the extended reals runs and leaves its arguments and counters as they were. -/
theorem frame_ideal : Cert.quiescent_KernelIdeal (hKernelIdeal := Cert.KernelIdeal.Gen.facts) (hPre_last_block_used := Cert.Pre_last_block_used.Gen.facts) :=
  fun m g h => Cert.PoolBody.frame_pool m g (sched m (Cert.PoolPre.used_of_pre _ _ _ _ _ _ (h 0)))

/-- The printed kernel runs and leaves its arguments and counters as they were. -/
theorem frame_kernel : Cert.quiescent_Kernel (hKernel := Cert.Kernel.Gen.facts) (hPre_last_block_used := Cert.Pre_last_block_used.Gen.facts) := by
  intro m g h
  rw [Cert.PoolTransfer.defs_eq, Cert.PoolTransfer.main_eq]
  exact Cert.PoolBody.frame_pool (F := Bits) m g (sched (F := Bits) m (Cert.PoolPre.used_of_pre _ _ _ _ _ _ (h 0)))

/-- The reference runs and leaves its arguments and counters as they were. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- What `pool_inputs` says of the kernel's arguments. -/
theorem inputs (m : (ℓ : Loc Cert.KernelIdeal.nD Cert.KernelIdeal.τ Cert.KernelIdeal.sig) → Buf (Elt Ideal) ℓ)
    (h : Cert.Pre_KernelIdeal_pool_inputs (hPre_pool_inputs := Cert.Pre_pool_inputs.Gen.facts) m) :
    Cert.PoolPre.Inputs (batchOf m) (m (((0 : Dev Cert.KernelIdeal.nD).tc : Thread Cert.KernelIdeal.nD Cert.KernelIdeal.τ).loc Cert.KernelIdeal.main_arg4))
      (m (((0 : Dev Cert.KernelIdeal.nD).tc : Thread Cert.KernelIdeal.nD Cert.KernelIdeal.τ).loc Cert.KernelIdeal.main_arg5)) :=
  Cert.PoolPre.inputs_of_pre _ _ _ _ _ _ (h 0)

/-- The same frames where `pool_inputs` holds. -/
theorem frame_ideal_pool : Cert.quiescent_KernelIdeal_pre_pool_inputs (hKernelIdeal := Cert.KernelIdeal.Gen.facts)
    (hPre_pool_inputs := Cert.Pre_pool_inputs.Gen.facts) :=
  fun m g h => Cert.PoolBody.frame_pool m g (sched m (inputs m h).used)

/-- The reference's frame, for the arguments that `pool_inputs` allows. -/
theorem frame_reference_pool : Cert.quiescent_ReferenceIdeal_pre_pool_inputs (hReferenceIdeal := Cert.ReferenceIdeal.Gen.facts)
    (hPre_pool_inputs := Cert.Pre_pool_inputs.Gen.facts) := fun m g _ =>
  (θ_run Cert.ReferenceIdeal.defs _ _).mono (fun r h => ⟨fun c => (h c).2, sem_eq_zero_of_no_sems (by decide) r.2⟩)
    (Cert.ReferenceIdeal.Value.run m g)

/-- The reference's result, from the kernel's arguments, is the array the kernel returns. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_pool_inputs (hPre_pool_inputs := Cert.Pre_pool_inputs.Gen.facts) m) (c : Dev Cert.ReferenceIdeal.nD)
    (e0 : m' ((c.tc : Thread Cert.ReferenceIdeal.nD Cert.ReferenceIdeal.τ).loc Cert.ReferenceIdeal.main_arg0) = m (((0 : Dev Cert.KernelIdeal.nD).tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m (((0 : Dev Cert.KernelIdeal.nD).tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m (((0 : Dev Cert.KernelIdeal.nD).tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m (((0 : Dev Cert.KernelIdeal.nD).tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m (((0 : Dev Cert.KernelIdeal.nD).tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m (((0 : Dev Cert.KernelIdeal.nD).tc : Thread Cert.KernelIdeal.nD Cert.KernelIdeal.τ).loc Cert.KernelIdeal.main_arg5)) :
    Cert.ReferenceIdeal.Value.res_main_v48 m' c = Cert.PoolSteps.result m := by
  obtain ⟨-, -, hw, hb⟩ := inputs m h
  rw [Cert.PoolReference.res_eq, e0, e1, e2, e3, e4, e5]
  funext x
  exact (congrArg _ (ValueIdx.eq_ix2 x)).trans (Cert.PoolReference.reference_apply _ _ _ _ _ _ hw hb (x (0 : Fin 2)) (x (1 : Fin 2)))

/-- The kernel and the reference return the same array. -/
theorem value : Cert.algebraic_KernelIdeal_ReferenceIdeal_pre_pool_inputs (hKernelIdeal := Cert.KernelIdeal.Gen.facts)
    (hReferenceIdeal := Cert.ReferenceIdeal.Gen.facts) (hPre_pool_inputs := Cert.Pre_pool_inputs.Gen.facts) := by
  intro m g m' g' h ha
  obtain ⟨ho, ⟨x, hx⟩, -, -⟩ := inputs m h
  have hr := rows_of_used (batchOf m) x hx
  have w := tab_words m hr
  refine ⟨fun _ => Cert.PoolSteps.result m, Cert.PoolSteps.run_result m (w.sched hr) g hr w ho,
    (θ_run Cert.ReferenceIdeal.defs _ _).mono (fun r hr c => ⟨(hr c).1.trans ?_, (hr c).2⟩) (Cert.ReferenceIdeal.Value.run m' g')⟩
  obtain rfl : c = 0 := Subsingleton.elim _ _
  obtain ⟨e0, e1, e2, e3, e4, e5⟩ := ha 0
  exact reference_result m m' h 0 e0 e1 e2 e3 e4 e5

/-- The certificate's claim. -/
theorem claim : Cert.Claim :=
  ⟨Cert.Kernel.Gen.facts, Cert.KernelIdeal.Gen.facts, Cert.ReferenceIdeal.Gen.facts, Cert.Pre_last_block_used.Gen.facts,
    Cert.Pre_pool_inputs.Gen.facts, frame_kernel, frame_ideal, frame_ideal_pool, frame_reference, frame_reference_pool, trivial, value⟩

end Cert.Proof

end
